-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probabilities_and_labels [hPre_probabilities_and_labels : Cert.Pre_probabilities_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_probabilities_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probabilities_and_labels [hPre_probabilities_and_labels : Cert.Pre_probabilities_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probabilities_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_probabilities_and_labels [hKernelIdeal : Cert.KernelIdeal.Facts] [hPre_probabilities_and_labels : Cert.Pre_probabilities_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probabilities_and_labels m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_probabilities_and_labels [hReferenceIdeal : Cert.ReferenceIdeal.Facts] [hPre_probabilities_and_labels : Cert.Pre_probabilities_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probabilities_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "w_ln2" .f32 0x415CC06D#32 ((15169938619275 / 1099511627776 : ℝ) : EReal)
  ∧ IdealRules.named_const.Statement Cert.KernelIdeal.κ "inv_ln2" .f32 0x3FB8AA3B#32 ((2097152 / 1453635 : ℝ) : EReal)

def algebraic_KernelIdeal_ReferenceIdeal_pre_probabilities_and_labels [hKernelIdeal : Cert.KernelIdeal.Facts] [hReferenceIdeal : Cert.ReferenceIdeal.Facts] [hPre_probabilities_and_labels : Cert.Pre_probabilities_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probabilities_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_probabilities_and_labels : Cert.Pre_probabilities_and_labels.Facts),
    quiescent_Kernel (hKernel := hKernel)
    ∧ quiescent_KernelIdeal (hKernelIdeal := hKernelIdeal)
    ∧ quiescent_KernelIdeal_pre_probabilities_and_labels (hKernelIdeal := hKernelIdeal) (hPre_probabilities_and_labels := hPre_probabilities_and_labels)
    ∧ quiescent_ReferenceIdeal (hReferenceIdeal := hReferenceIdeal)
    ∧ quiescent_ReferenceIdeal_pre_probabilities_and_labels (hReferenceIdeal := hReferenceIdeal) (hPre_probabilities_and_labels := hPre_probabilities_and_labels)
    ∧ preserves_Kernel_KernelIdeal
    ∧ algebraic_KernelIdeal_ReferenceIdeal_pre_probabilities_and_labels (hKernelIdeal := hKernelIdeal) (hReferenceIdeal := hReferenceIdeal) (hPre_probabilities_and_labels := hPre_probabilities_and_labels)
-- ==== Pre_probabilities_and_labels.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_cst : FVec F S_ .f32 := constant S_ .f32 0x00800000#32
  let main_v0 : FVec F S4096x2048 .f32 := broadcastInDim S4096x2048 ![] bcast_S_S4096x2048 main_cst
  let main_v1 : IVec S4096x2048 1 := cmpf .oge main_arg0 main_v0
  let main_cst_0 : FVec F S_ .f32 := constant S_ .f32 0x3F7FFFFF#32
  let main_v2 : FVec F S4096x2048 .f32 := broadcastInDim S4096x2048 ![] bcast_S_S4096x2048 main_cst_0
  let main_v3 : IVec S4096x2048 1 := cmpf .ole main_arg0 main_v2
  let main_v4 : IVec S4096x2048 1 := andi main_v1 main_v3
  let main_cst_1 : FVec F S_ .f32 := constant S_ .f32 0x00000000#32
  let main_v5 : FVec F S4096x2048 .f32 := broadcastInDim S4096x2048 ![] bcast_S_S4096x2048 main_cst_1
  let main_v6 : IVec S4096x2048 1 := cmpf .oeq main_arg1 main_v5
  let main_cst_2 : FVec F S_ .f32 := constant S_ .f32 0x3F800000#32
  let main_v7 : FVec F S4096x2048 .f32 := broadcastInDim S4096x2048 ![] bcast_S_S4096x2048 main_cst_2
  let main_v8 : IVec S4096x2048 1 := cmpf .oeq main_arg1 main_v7
  let main_v9 : IVec S4096x2048 1 := ori main_v6 main_v8
  let main_v10 : IVec S4096x2048 1 := andi main_v4 main_v9
  let main_c : IVec S_ 1 := constantI S_ 1 1#1
  let main_v11 : IVec S_ 1 := (fun x v => Host.reduce IntOp.andi x v reducesTo_S4096x2048_S_d0_1 h_S_) main_v10 main_c
  main_v11
-- ==== Kernel.lean ====
abbrev S4096x2048 : Shape := ⟨2, ![4096, 2048]⟩
abbrev S1 : Shape := ⟨1, ![1]⟩
abbrev S496x2048 : Shape := ⟨2, ![496, 2048]⟩
abbrev S1x496x2048 : Shape := ⟨3, ![1, 496, 2048]⟩
abbrev S1x1x1 : Shape := ⟨3, ![1, 1, 1]⟩
abbrev S_ : Shape := ⟨0, ![]⟩
abbrev S1024 : Shape := ⟨1, ![1024]⟩
abbrev S8x1024 : Shape := ⟨2, ![8, 1024]⟩
abbrev S32 : Shape := ⟨1, ![32]⟩
abbrev S16 : Shape := ⟨1, ![16]⟩
abbrev S1x16 : Shape := ⟨2, ![1, 16]⟩
abbrev S512 : Shape := ⟨1, ![512]⟩

abbrev nBuf : Table → Nat
  | .hbm => 20
  | .local .tc .vmem => 4
  | .local .tc .smem => 2
  | .local .scVector .vmem => 3
  | _ => 0

abbrev bufTy : (tb : Table) → Fin (nBuf tb) → BufTy
  | .hbm, ⟨0, _⟩ => ⟨S4096x2048, .f32⟩
  | .hbm, ⟨1, _⟩ => ⟨S4096x2048, .f32⟩
  | .hbm, ⟨2, _⟩ => ⟨S1, .f32⟩
  | .hbm, ⟨3, _⟩ => ⟨S_, .f32⟩
  | .hbm, ⟨4, _⟩ => ⟨S1024, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S496x2048, .f32⟩
  | .local .tc .vmem, ⟨1, _⟩ => ⟨S496x2048, .f32⟩
  | .local .tc .vmem, ⟨2, _⟩ => ⟨S496x2048, .f32⟩
  | .local .tc .vmem, ⟨3, _⟩ => ⟨S496x2048, .f32⟩
  | .local .tc .smem, ⟨0, _⟩ => ⟨S1, .f32⟩
  | .local .tc .smem, ⟨1, _⟩ => ⟨S1, .f32⟩
  | .local .scVector .vmem, ⟨0, _⟩ => ⟨S8x1024, .f32⟩
  | .local .scVector .vmem, ⟨1, _⟩ => ⟨S8x1024, .f32⟩
  | .local .scVector .vmem, ⟨2, _⟩ => ⟨S32, .f32⟩
  | _, _ => ⟨S4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_arg0_scv : Ref sig .scVector := ⟨.hbm, 0, rfl⟩
abbrev main_arg1_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S496x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S496x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 2 → Nat :=
  let c3968_i32 : BitVec 32 := 3968#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.divsi v1 c2_i32_0
  let c8_i32 : BitVec 32 := 8#32
  let v4 : BitVec 32 := Scalar.muli v2 c8_i32
  let v5 : BitVec 32 := Scalar.addi c3968_i32 v4
  let c2_i32_1 : BitVec 32 := 2#32
  let v3 : BitVec 32 := Scalar.remsi v1 c2_i32_1
  let c1024_i32 : BitVec 32 := 1024#32
  let v6 : BitVec 32 := Scalar.muli v3 c1024_i32
  ![v5.toNat, v6.toNat]
@[reducible] def k1_t1_loop : Scf.Loop 32 :=
  let c0_i32 : BitVec 32 := 0#32
  let c128_i32 : BitVec 32 := 128#32
  let v16 : BitVec 32 := Scalar.addi c0_i32 c128_i32
  let c1_i32 : BitVec 32 := 1#32
  ⟨c0_i32, v16, c1_i32⟩
def k1_off2 (k1_t1 : Fin k1_t1_loop.trips) (c0_i32_6 : BitVec 32) : Fin 2 → Nat :=
  let c0_i32_5 : BitVec 32 := 0#32
  let c0_i32 : BitVec 32 := 0#32
  let c1_i32 : BitVec 32 := 1#32
  let arg10 : BitVec 32 := Scf.iv c0_i32 c1_i32 k1_t1
  let c1_i32_4 : BitVec 32 := 1#32
  let v33 : BitVec 32 := Scalar.muli arg10 c1_i32_4
  let v34 : BitVec 32 := Scalar.addi c0_i32_5 v33
  let c4_i32 : BitVec 32 := 4#32
  let v35 : BitVec 32 := Scalar.muli v34 c4_i32
  let v36 : BitVec 32 := Scalar.addi v35 c0_i32_6
  let c6_i32 : BitVec 32 := 6#32
  let v37 : BitVec 32 := Scalar.shrui v36 c6_i32
  let v40 : Index := Scalar.indexCast v37
  let c63_i32 : BitVec 32 := 63#32
  let v38 : BitVec 32 := Scalar.andi v36 c63_i32
  let c16_i32_7 : BitVec 32 := 16#32
  let v39 : BitVec 32 := Scalar.muli v38 c16_i32_7
  let v41 : Index := Scalar.indexCast v39
  ![v40.toNat, v41.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v30 : BitVec 32 := Scalar.muli v1 c16_i32
  ![v30.toNat]
def k1_off4 (i : grid1.Coords) : Fin 1 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi c32_i32 v1
  let c16_i32_3 : BitVec 32 := 16#32
  let v32 : BitVec 32 := Scalar.muli v31 c16_i32_3
  ![v32.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ln2" => some ((2097152 / 1453635 : ℝ) : EReal)
  | "w_ln2" => some ((15169938619275 / 1099511627776 : ℝ) : EReal)
  | _ => none
-- ==== ReferenceIdeal.lean ====
abbrev S4096x2048 : Shape := ⟨2, ![4096, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .i1⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Base.lean ====
/- The kernel as the launch theorem sees it, the resource algebra, and the value the SparseCore's loop folds.
   Everything is stated over any floating-point carrier `F`. -/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

set_option maxRecDepth 16384

noncomputable section

namespace Cert.Proof.Bce

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program at the launch -/

section Program
variable [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_sc : (K (F := F)).nSub 0 = 16 := rfl
theorem nCore_sc : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

end Program

/-! ## The resource algebra: the launch's handshakes, the TensorCore windows' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The value of one task's loop -/

section Fold
variable [FloatOps F] [Named F]

/-- The loop's eight carried vectors: four partial sums of the log terms, four of the label-weighted ones. -/
abbrev Acc (F : FTy → Type) : Type :=
  FVec F S16 .f32 × FVec F S16 .f32 × FVec F S16 .f32 × FVec F S16 .f32
    × FVec F S16 .f32 × FVec F S16 .f32 × FVec F S16 .f32 × FVec F S16 .f32

/-- Vector `r` of trip `k`, of a task's slab. -/
abbrev lane (x : Vec F S8x1024 .f32) (k : Fin k1_t1_loop.trips) (r : Fin 4) : Vec F S1x16 .f32 :=
  View.ld (Val := Elt F) x (Rect.unit (s := S8x1024) (k1_off2 k (BitVec.ofNat 32 r.val)) S1x16.size (k1_off2_inb k r))

/-- One trip over the slabs `p` (predictions) and `t` (labels). -/
def tripAcc (p t : Vec F S8x1024 .f32) (k : Fin k1_t1_loop.trips) (a : Acc F) : Acc F :=
  (k1_pay3 a.1 (lane p k 0) (lane t k 0),
    k1_pay8 a.2.1 (k1_pay6 (lane p k 1) (lane t k 1)) (Named.named κ "inv_ln2" 0x3FB8AA3B#32),
    k1_pay12 a.2.2.1 (lane p k 2) (lane t k 2),
    k1_pay18 a.2.2.2.1 (k1_pay15 (lane p k 3) (lane t k 3)) (Named.named κ "inv_ln2" 0x3FB8AA3B#32),
    k1_pay4 a.2.2.2.2.1 (lane p k 0) (lane t k 0),
    k1_pay9 a.2.2.2.2.2.1 (k1_pay5 (lane t k 1)) (k1_pay6 (lane p k 1) (lane t k 1)) (Named.named κ "inv_ln2" 0x3FB8AA3B#32),
    k1_pay13 a.2.2.2.2.2.2.1 (lane p k 2) (lane t k 2),
    k1_pay19 a.2.2.2.2.2.2.2 (k1_pay14 (lane t k 3)) (k1_pay15 (lane p k 3) (lane t k 3)) (Named.named κ "inv_ln2" 0x3FB8AA3B#32))

/-- The carried vectors before the first trip. -/
def zeroAcc : Acc F := (k1_pay16, k1_pay16, k1_pay16, k1_pay16, k1_pay16, k1_pay16, k1_pay16, k1_pay16)

/-- The carried vectors after `n` trips. -/
def foldAcc (p t : Vec F S8x1024 .f32) : ℕ → Acc F
  | 0 => zeroAcc
  | n + 1 => if h : n < k1_t1_loop.trips then tripAcc p t ⟨n, h⟩ (foldAcc p t n) else foldAcc p t n

theorem foldAcc_succ (p t : Vec F S8x1024 .f32) (k : Fin k1_t1_loop.trips) :
    foldAcc p t (k.val + 1) = tripAcc p t k (foldAcc p t k.val) := by
  rw [foldAcc, dif_pos k.isLt]

/-- What a task stores in the first half of its result vector, and in the second. -/
def sumA (p t : Vec F S8x1024 .f32) : FVec F S16 .f32 :=
  k1_pay20 (foldAcc p t k1_t1_loop.trips).1 (foldAcc p t k1_t1_loop.trips).2.1
    (foldAcc p t k1_t1_loop.trips).2.2.1 (foldAcc p t k1_t1_loop.trips).2.2.2.1
def sumB (p t : Vec F S8x1024 .f32) : FVec F S16 .f32 :=
  k1_pay21 (foldAcc p t k1_t1_loop.trips).2.2.2.2.1 (foldAcc p t k1_t1_loop.trips).2.2.2.2.2.1
    (foldAcc p t k1_t1_loop.trips).2.2.2.2.2.2.1 (foldAcc p t k1_t1_loop.trips).2.2.2.2.2.2.2

/-- The slab of an argument that the task at coordinates `L` reads. -/
abbrev slabRect (L : grid1.Coords) : Rect S4096x2048 := Rect.unit (s := S4096x2048) (k1_off1 L) S8x1024.size (k1_off1_inb L)
abbrev slab (x : Vec F S4096x2048 .f32) (L : grid1.Coords) : Vec F S8x1024 .f32 := View.ld (Val := Elt F) x (slabRect L)

end Fold

/-! ## Coordinates of a task -/

/-- The task on core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1

/-- The task's number: twice its subcore plus its core. -/
def wid (L : grid1.Coords) : Fin 32 := ⟨(L 1).val * 2 + (L 0).val, by
  have h0 : (L 0).val < 2 := (L 0).isLt
  have h1 : (L 1).val < 16 := (L 1).isLt
  omega⟩

/-- The task with number `n`. -/
def taskOf (n : Fin 32) : grid1.Coords :=
  coordsV ⟨n.val % 2, Nat.mod_lt _ (by decide)⟩ ⟨n.val / 2, by have := n.isLt; show n.val / 2 < 16; omega⟩

theorem taskOf_wid (L : grid1.Coords) : taskOf (wid L) = L := by
  have h0 : (L 0).val < 2 := (L 0).isLt
  have h1 : (L 1).val < 16 := (L 1).isLt
  funext a
  match a with
  | 0 => exact Fin.ext (show ((L 1).val * 2 + (L 0).val) % 2 = (L 0).val by omega)
  | 1 => exact Fin.ext (show ((L 1).val * 2 + (L 0).val) / 2 = (L 1).val by omega)

/-! ## The launch memory and the buffers the SparseCore call touches -/

abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v2

/-- The sixteen elements of the result that task `L` writes its first sums to, and its second. -/
abbrev rectA (L : grid1.Coords) : Rect S1024 := Rect.unit (s := S1024) (k1_off3 L) S16.size (k1_off3_inb L)
abbrev rectB (L : grid1.Coords) : Rect S1024 := Rect.unit (s := S1024) (k1_off4 L) S16.size (k1_off4_inb L)

/-- Lane `n` of a sixteen-lane vector, counted round. -/
def lane16 (n : ℕ) : S16.Idx := fun a => ⟨n % 16, match a with | 0 => Nat.mod_lt _ (by decide)⟩

section Out
variable [FloatOps F] [Named F]

/-- The call's result: in its first half the tasks' first sums, sixteen lanes each, in its second half the others. -/
def scOut (p t : Vec F S4096x2048 .f32) : Vec F S1024 .f32 := fun j =>
  have hj : (j 0).val < 1024 := (j 0).isLt
  if h : (j 0).val < 512 then
    sumA (slab p (taskOf ⟨(j 0).val / 16, by omega⟩)) (slab t (taskOf ⟨(j 0).val / 16, by omega⟩))
      (lane16 (j 0).val)
  else
    sumB (slab p (taskOf ⟨((j 0).val - 512) / 16, by omega⟩)) (slab t (taskOf ⟨((j 0).val - 512) / 16, by omega⟩))
      (lane16 (j 0).val)

theorem scOut_low (p t : Vec F S4096x2048 .f32) (j : S1024.Idx) (L : grid1.Coords) (x : S16.Idx)
    (h0 : (j 0).val = (wid L).val * 16 + (x 0).val) : scOut p t j = sumA (slab p L) (slab t L) x := by
  have hx : (x 0).val < 16 := (x 0).isLt
  have hw := (wid L).isLt
  have hl : lane16 (j 0).val = x := by
    funext a; match a with | 0 => exact Fin.ext (show (j 0).val % 16 = (x 0).val by omega)
  have e : ∀ n : Fin 32, n.val = (wid L).val → taskOf n = L := fun n hn => by
    rw [Fin.ext hn, taskOf_wid]
  unfold scOut
  rw [dif_pos (by omega), hl, e _ (show (j 0).val / 16 = (wid L).val by omega)]
theorem scOut_high (p t : Vec F S4096x2048 .f32) (j : S1024.Idx) (L : grid1.Coords) (x : S16.Idx)
    (h0 : (j 0).val = 512 + (wid L).val * 16 + (x 0).val) : scOut p t j = sumB (slab p L) (slab t L) x := by
  have hx : (x 0).val < 16 := (x 0).isLt
  have hw := (wid L).isLt
  have hl : lane16 (j 0).val = x := by
    funext a; match a with | 0 => exact Fin.ext (show (j 0).val % 16 = (x 0).val by omega)
  have e : ∀ n : Fin 32, n.val = (wid L).val → taskOf n = L := fun n hn => by
    rw [Fin.ext hn, taskOf_wid]
  unfold scOut
  rw [dif_neg (by omega), hl, e _ (show ((j 0).val - 512) / 16 = (wid L).val by omega)]

omit [FloatOps F] [Named F] in
theorem k1_off3_val (L : grid1.Coords) : k1_off3 L = ![(wid L).val * 16] := by
  rw [k1_off3_eq]; funext a; match a with | 0 => simp [wid]; omega
omit [FloatOps F] [Named F] in
theorem k1_off4_val (L : grid1.Coords) : k1_off4 L = ![512 + (wid L).val * 16] := by
  rw [k1_off4_eq]; funext a; match a with | 0 => simp [wid]; omega

end Out

/-- An element of a unit-stride rectangle, axis by axis. -/
theorem unit_val {s : Shape} (off size : Fin s.rank → ℕ) (h : ∀ a, off a + size a ≤ s.size a) (x : (Rect.unit off size h).shape.Idx)
    (a : Fin s.rank) : ((Rect.unit off size h).emb x a).val = off a + (x a).val := by
  show off a + 1 * (x a).val = _
  rw [Nat.one_mul]

end Cert.Proof.Bce

end
-- ==== Proof.Tile.lean ====
/- One task of the SparseCore call, run at a symbolic core and subcore: from the two slabs of the arguments it leaves, in
   its two groups of sixteen elements of the result, the sums its loop folds. -/
module

public import proofs.«01_k».proof.Proof.Base
public import Idealize.ShloMosaic.Lib.WritesUnit

@[expose] public section

set_option maxRecDepth 16384

noncomputable section

namespace Cert.Proof.Bce

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## What a task is handed -/

/-- The share of an argument that task `n` reads. -/
abbrev readSh (n : Fin 32) : PosShare TreeShare := ShareLeaves.leaf 5 fullShare n

abbrev argP : Memref sig .scVector .hbm S4096x2048 .f32 := Memref.whole main_arg0_scv
abbrev argT : Memref sig .scVector .hbm S4096x2048 .f32 := Memref.whole main_arg1_scv
abbrev argO : Memref sig .scVector .hbm S1024 .f32 := Memref.whole main_v2_scv
abbrev bufP : Memref sig .scVector .vmem S8x1024 .f32 := Memref.whole cc1_scratch0
abbrev bufT : Memref sig .scVector .vmem S8x1024 .f32 := Memref.whole cc1_scratch1
abbrev bufR : Memref sig .scVector .vmem S32 .f32 := Memref.whole cc1_scratch2

abbrev setA (L : grid1.Coords) : Finset S1024.Idx := (argO.view.slice (rectA L)).set
abbrev setB (L : grid1.Coords) : Finset S1024.Idx := (argO.view.slice (rectB L)).set

/-- A task's shares of the two arguments. -/
abbrev pSh (d : Dev nD) (n : Fin 32) : sProp 𝕄 := pLoc d ↦{readSh n} m (pLoc d)
abbrev tSh (d : Dev nD) (n : Fin 32) : sProp 𝕄 := tLoc d ↦{readSh n} m (tLoc d)
/-- Its two groups of the result, at contents `f`. -/
abbrev outA (d : Dev nD) (L : grid1.Coords) (f : Buf (Elt F) (oLoc d)) : sProp 𝕄 := oLoc d ↦[setA L]{fullShare} f
abbrev outB (d : Dev nD) (L : grid1.Coords) (f : Buf (Elt F) (oLoc d)) : sProp 𝕄 := oLoc d ↦[setB L]{fullShare} f

/-- The call's result as the tasks leave it. -/
abbrev scRes (d : Dev nD) : Buf (Elt F) (oLoc d) := scOut (F := F) (m (pLoc d)) (m (tLoc d))

variable (d : Dev nD) (L : grid1.Coords)

abbrev cell3 : GSem nD τ sig := (V d (cV L) (jV L), .dma cc1_scratch3.sem)
abbrev cell4 : GSem nD τ sig := (V d (cV L) (jV L), .dma cc1_scratch4.sem)
abbrev cell5 : GSem nD τ sig := (V d (cV L) (jV L), .dma cc1_scoped0.sem)
abbrev cell6 : GSem nD τ sig := (V d (cV L) (jV L), .dma cc1_scoped1.sem)

omit [FloatOps F] [Named F] in
/-- The task's four semaphores, and the rest of its subcore's. -/
theorem taskSems :
    (ownSems0 (V d (cV L) (jV L)) : sProp 𝕄)
      = iprop(semVal (cell3 d L) 0 ∗ semVal (cell4 d L) 0 ∗ semVal (cell5 d L) 0 ∗ semVal (cell6 d L) 0
          ∗ bigSep (((((ownCells (V d (cV L) (jV L))).erase (cell3 d L)).erase (cell4 d L)).erase (cell5 d L)).erase (cell6 d L))
              fun g => semVal g 0) := by
  have own (s : DmaSem sig) (h : (SemLoc.dma s : SemLoc sig).isScoped .scVector = true) :
      ((V d (cV L) (jV L), .dma s) : GSem nD τ sig) ∈ ownCells (V d (cV L) (jV L)) := mem_ownCells.mpr ⟨rfl, h⟩
  have ne (s s' : DmaSem sig) (h : s ≠ s') :
      ((V d (cV L) (jV L), .dma s) : GSem nD τ sig) ≠ (V d (cV L) (jV L), .dma s') :=
    fun e => h (by injection e with _ e; injection e)
  unfold SparseCore.Cfg.ownSems0
  rw [SparseCore.bigSep_erase' (own cc1_scratch3.sem (by decide)),
    SparseCore.bigSep_erase' (Finset.mem_erase.mpr ⟨ne cc1_scratch4.sem cc1_scratch3.sem (by decide), own cc1_scratch4.sem (by decide)⟩),
    SparseCore.bigSep_erase' (Finset.mem_erase.mpr ⟨ne cc1_scoped0.sem cc1_scratch4.sem (by decide),
      Finset.mem_erase.mpr ⟨ne cc1_scoped0.sem cc1_scratch3.sem (by decide), own cc1_scoped0.sem (by decide)⟩⟩),
    SparseCore.bigSep_erase' (Finset.mem_erase.mpr ⟨ne cc1_scoped1.sem cc1_scoped0.sem (by decide),
      Finset.mem_erase.mpr ⟨ne cc1_scoped1.sem cc1_scratch4.sem (by decide),
        Finset.mem_erase.mpr ⟨ne cc1_scoped1.sem cc1_scratch3.sem (by decide), own cc1_scoped1.sem (by decide)⟩⟩⟩)]

omit [FloatOps F] [Named F] in
/-- The task's three scratch buffers, and the rest of its subcore's. -/
theorem taskBufs :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have own (b : Ref sig .scVector) (h : ((Proc.scVector (cV L) (jV L)).devRef b).owner = .proc (Proc.scVector (cV L) (jV L))) :
      (Proc.scVector (cV L) (jV L)).devRef b ∈ ownRefs (τ := τ) (.scVector (cV L) (jV L)) :=
    SparseCore.Cfg.mem_ownRefs_of_owner (p := Proc.scVector (cV L) (jV L)) h
  have ne (b b' : Ref sig .scVector) (h : b ≠ b') :
      (Proc.scVector (cV L) (jV L)).devRef b ≠ (Proc.scVector (cV L) (jV L)).devRef b' := fun e => h (Proc.devRef_injective _ e)
  unfold SparseCore.Cfg.ownBufs
  refine (SparseCore.bigSep_erase' (own cc1_scratch0 rfl)).trans ?_
  rw [SparseCore.bigSep_erase' (Finset.mem_erase.mpr ⟨ne cc1_scratch1 cc1_scratch0 (by decide), own cc1_scratch1 rfl⟩),
    SparseCore.bigSep_erase' (Finset.mem_erase.mpr ⟨ne cc1_scratch2 cc1_scratch1 (by decide),
      Finset.mem_erase.mpr ⟨ne cc1_scratch2 cc1_scratch0 (by decide), own cc1_scratch2 rfl⟩⟩)]

/-! ## The loop -/

abbrev bodyT (L : grid1.Coords) :=
  k1_t1_body (F := F) L argP (Memref.isWhole_whole _) argT (Memref.isWhole_whole _) argO (Memref.isWhole_whole _)
    bufP (Memref.isWhole_whole _) bufT (Memref.isWhole_whole _) bufR (Memref.isWhole_whole _)
    cc1_scratch3 cc1_scratch4 cc1_scoped0 cc1_scoped1

/-- The two slabs in scratch. -/
abbrev slabsAt (p t : Vec F S8x1024 .f32) : sProp 𝕄 :=
  iprop((bufP.view.loc (V d (cV L) (jV L)) ↦{fullShare} p) ∗ (bufT.view.loc (V d (cV L) (jV L)) ↦{fullShare} t))

theorem trip_spec (p t : Vec F S8x1024 .f32) (k : Fin k1_t1_loop.trips) (a : Acc F) :
    slabsAt d L p t
      ⊢ wp frame (wpE (defs₀ (F := F)) 𝒱₀ (V d (cV L) (jV L)) none) Set.univ (bodyT L k a)
          fun b => iprop(⌜b = tripAcc p t k a⌝ ∗ slabsAt d L p t) := by
  obtain ⟨a0, a1, a2, a3, a4, a5, a6, a7⟩ := a
  unfold bodyT
  sl_unfold [k1_t1_body]
  simp only [k1_part1_eq_skeleton, k1_part2_eq_skeleton]
  sl_unfold [k1_part1_skel, k1_part2_skel]
  iintro ⟨Hp, Ht⟩
  sl_exec
  sl_step
  isplitr
  · ipureintro; rfl
  isplitl [Hp] <;> iassumption

/-- Before trip `n` the loop carries the fold of the trips done, the two slabs in scratch. -/
abbrev loopAt (p t : Vec F S8x1024 .f32) (n : ℕ) (a : Acc F) : sProp 𝕄 := iprop(⌜a = foldAcc p t n⌝ ∗ slabsAt d L p t)

theorem loop_step (p t : Vec F S8x1024 .f32) (k : Fin k1_t1_loop.trips) (a : Acc F) :
    loopAt d L p t k.val a ⊢ wp frame (wpE (defs₀ (F := F)) 𝒱₀ (V d (cV L) (jV L)) none) Set.univ (bodyT L k a)
      (loopAt d L p t (k.val + 1)) := by
  iintro ⟨%ha, H⟩
  subst ha
  iapply (wp_wand_r frame (wpE (defs₀ (F := F)) 𝒱₀ (V d (cV L) (jV L)) none) Set.univ)
  isplitl [H]
  · iapply (trip_spec d L p t k _); iexact H
  iintro %b ⟨%hb, H⟩
  isplitr
  · ipureintro; rw [hb, foldAcc_succ]
  iexact H

/-! ## The task -/

omit [FloatOps F] [Named F] in
theorem pts_A (f : Buf (Elt F) (oLoc d)) :
    ((argO.slice (rectA L) (fun _ => rfl)).view.loc (V d (cV L) (jV L)) ↦[(argO.slice (rectA L) (fun _ => rfl)).view.set]{fullShare} f : sProp 𝕄)
      = outA d L f := rfl
omit [FloatOps F] [Named F] in
theorem pts_B (f : Buf (Elt F) (oLoc d)) :
    ((argO.slice (rectB L) (fun _ => rfl)).view.loc (V d (cV L) (jV L)) ↦[(argO.slice (rectB L) (fun _ => rfl)).view.set]{fullShare} f : sProp 𝕄)
      = outB d L f := rfl

abbrev lowR : Rect S32 := Rect.unit (s := S32) ![0] S16.size inb_S32_S16_0
abbrev highR : Rect S32 := Rect.unit (s := S32) ![16] S16.size inb_S32_S16_16

omit [FloatOps F] [Named F] in
/-- The result vector's two halves, read back after both are stored. -/
theorem back_A (f : bufR.view.ty.Contents (Elt F)) (a b : S16.Idx → Elt F .f32) (x : S16.Idx) :
    (bufR.slice lowR (fun _ => rfl)).view.read (Elt F) (bufR.view.writes (Elt F) f [⟨highR, b⟩, ⟨lowR, a⟩]) x = a x := by
  have hx : (x 0).val < 16 := (x 0).isLt
  have h0 : (lowR.emb x (0 : Fin 1)).val = (x 0).val := (unit_val (s := S32) ![0] S16.size inb_S32_S16_0 x 0).trans (Nat.zero_add _)
  show bufR.view.read (Elt F) _ (lowR.emb x) = a x
  refine (View.read_writes_cons_unit_of_not_mem (v := bufR.view) (f := f) (s := S32) inb_S32_S16_16 b [⟨lowR, a⟩] (lowR.emb x) rfl (0 : Fin 1)
    (Or.inl (by rw [h0]; exact hx))).trans ?_
  exact View.read_writes_cons_unit_of_mem (v := bufR.view) (f := f) (s := S32) inb_S32_S16_0 a [] (lowR.emb x) x rfl
    (fun i => match i with | 0 => by rw [h0]; exact (Nat.zero_add _).symm)
omit [FloatOps F] [Named F] in
theorem back_B (f : bufR.view.ty.Contents (Elt F)) (a b : S16.Idx → Elt F .f32) (x : S16.Idx) :
    (bufR.slice highR (fun _ => rfl)).view.read (Elt F) (bufR.view.writes (Elt F) f [⟨highR, b⟩, ⟨lowR, a⟩]) x = b x := by
  have h0 : (highR.emb x (0 : Fin 1)).val = 16 + (x 0).val := unit_val (s := S32) ![16] S16.size inb_S32_S16_16 x 0
  show bufR.view.read (Elt F) _ (highR.emb x) = b x
  exact View.read_writes_cons_unit_of_mem (v := bufR.view) (f := f) (s := S32) inb_S32_S16_16 b [⟨lowR, a⟩] (highR.emb x) x rfl
    (fun i => match i with | 0 => h0)

/-- The call's result at task `L`'s two groups. -/
theorem scOut_A (p t : Vec F S4096x2048 .f32) (L : grid1.Coords) (x : S16.Idx) :
    scOut p t ((rectA L).emb x) = sumA (slab p L) (slab t L) x := by
  have h0 : (((rectA L).emb x) (0 : Fin 1)).val = (wid L).val * 16 + (x 0).val :=
    (unit_val (s := S1024) (k1_off3 L) S16.size (k1_off3_inb L) x 0).trans (congrArg (· + (x 0).val) (congrFun (k1_off3_val L) 0))
  exact scOut_low p t _ L x h0
theorem scOut_B (p t : Vec F S4096x2048 .f32) (L : grid1.Coords) (x : S16.Idx) :
    scOut p t ((rectB L).emb x) = sumB (slab p L) (slab t L) x := by
  have h0 : (((rectB L).emb x) (0 : Fin 1)).val = 512 + (wid L).val * 16 + (x 0).val :=
    (unit_val (s := S1024) (k1_off4 L) S16.size (k1_off4_inb L) x 0).trans (congrArg (· + (x 0).val) (congrFun (k1_off4_val L) 0))
  exact scOut_high p t _ L x h0

/-- What the copies out leave in the task's two groups is the call's result there. -/
theorem wrote_A (pay : S16.Idx → Elt F .f32) (h : ∀ x, pay x = sumA (slab (m (pLoc d)) L) (slab (m (tLoc d)) L) x) :
    ((argO.slice (rectA L) (fun _ => rfl)).view.loc (V d (cV L) (jV L)) ↦[(argO.slice (rectA L) (fun _ => rfl)).view.set]{fullShare}
        (argO.slice (rectA L) (fun _ => rfl)).view.writes (Elt F) (m (oLoc d)) [⟨Rect.whole (rectA L).shape, pay⟩] : sProp 𝕄)
      = outA d L (scRes m d) := by
  refine pointsTo_congr fun i hi => ?_
  obtain ⟨x, -, rfl⟩ := Finset.mem_map.mp hi
  have hw : Rect.emb (Rect.whole (rectA L).shape) x = x := by simp
  have := View.read_writes_cons_emb (v := (argO.slice (rectA L) (fun _ => rfl)).view) (f := m (oLoc d)) (Val := Elt F)
    (Rect.whole (rectA L).shape) pay [] x
  rw [hw] at this
  exact this.trans ((h x).trans (scOut_A _ _ L x).symm)
theorem wrote_B (pay : S16.Idx → Elt F .f32) (h : ∀ x, pay x = sumB (slab (m (pLoc d)) L) (slab (m (tLoc d)) L) x) :
    ((argO.slice (rectB L) (fun _ => rfl)).view.loc (V d (cV L) (jV L)) ↦[(argO.slice (rectB L) (fun _ => rfl)).view.set]{fullShare}
        (argO.slice (rectB L) (fun _ => rfl)).view.writes (Elt F) (m (oLoc d)) [⟨Rect.whole (rectB L).shape, pay⟩] : sProp 𝕄)
      = outB d L (scRes m d) := by
  refine pointsTo_congr fun i hi => ?_
  obtain ⟨x, -, rfl⟩ := Finset.mem_map.mp hi
  have hw : Rect.emb (Rect.whole (rectB L).shape) x = x := by simp
  have := View.read_writes_cons_emb (v := (argO.slice (rectB L) (fun _ => rfl)).view) (f := m (oLoc d)) (Val := Elt F)
    (Rect.whole (rectB L).shape) pay [] x
  rw [hw] at this
  exact this.trans ((h x).trans (scOut_B _ _ L x).symm)

set_option maxHeartbeats 4000000 in
/-- The task on vector subcore `(L 0, L 1)` of device `d`: the two slabs fetched, the loop folded over them, the two sums
    stored, each copied out to its group of the result. -/
theorem tile_body (hF : (K (F := F)).Facts) (O : CellTallies nD τ sig (HIx 1)) (W : Waits sig (HIx 1)) (hO : ∀ g, O g none = 0) :
    iprop(levAts (K (F := F)).L (K (F := F)).lev ∗ emp
        ∗ (pSh m d (wid L) ∗ tSh m d (wid L) ∗ outA d L (m (oLoc d)) ∗ outB d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L argP (Memref.isWhole_whole _) argT (Memref.isWhole_whole _) argO (Memref.isWhole_whole _)
            bufP (Memref.isWhole_whole _) bufT (Memref.isWhole_whole _) bufR (Memref.isWhole_whole _)
            cc1_scratch3 cc1_scratch4 cc1_scoped0 cc1_scoped1)
          fun _ => iprop((pSh m d (wid L) ∗ tSh m d (wid L) ∗ outA d L (scRes m d) ∗ outB d L (scRes m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton, k1_part3_eq_skeleton]
  unfold cc1__sc_body_skel
  simp only [k1_part3_eq_skeleton]
  unfold k1_part3_skel
  rw [(K (F := F)).scopedBufs_V hF d (cV L) (jV L), SparseCore.Cfg.scopedSems0_V (Val := Elt F) d (cV L) (jV L), taskSems, taskBufs]
  iintro ⟨#Hlv, -, ⟨Hp, Ht, Ha, Hb⟩, ⟨⟨%fp, Hbp⟩, ⟨%ft, Hbt⟩, ⟨%fr, Hbr⟩, Hbufs⟩, ⟨Hs3, Hs4, Hs5, Hs6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (show (pSh m d (wid L) : sProp 𝕄) = (argP.view.loc (V d (cV L) (jV L)) ↦{readSh (wid L)} m (pLoc d)) from rfl)) $$ Hp
  ihave Ht' := (Entails.of_eq (show (tSh m d (wid L) : sProp 𝕄) = (argT.view.loc (V d (cV L) (jV L)) ↦{readSh (wid L)} m (tLoc d)) from rfl)) $$ Ht
  ihave Ha' := (Entails.of_eq (pts_A (F := F) d L _).symm) $$ Ha
  ihave Hb' := (Entails.of_eq (pts_B (F := F) d L _).symm) $$ Hb
  ihave Hbp' := (Entails.of_eq (show ((V d (cV L) (jV L)).loc cc1_scratch0 ↦{fullShare} fp : sProp 𝕄) = (bufP.view.loc (V d (cV L) (jV L)) ↦{fullShare} fp) from rfl)) $$ Hbp
  ihave Hbt' := (Entails.of_eq (show ((V d (cV L) (jV L)).loc cc1_scratch1 ↦{fullShare} ft : sProp 𝕄) = (bufT.view.loc (V d (cV L) (jV L)) ↦{fullShare} ft) from rfl)) $$ Hbt
  ihave Hbr' := (Entails.of_eq (show ((V d (cV L) (jV L)).loc cc1_scratch2 ↦{fullShare} fr : sProp 𝕄) = (bufR.view.loc (V d (cV L) (jV L)) ↦{fullShare} fr) from rfl)) $$ Hbr
  sl_exec
  have ep : View.write (Elt F) bufP.view fp (tile_body.sl.dma0 m d L) Finset.univ = slab (m (pLoc d)) L := by
    rw [View.write_whole_univ]; rfl
  have et : View.write (Elt F) bufT.view ft (tile_body.sl.dma0_1 m d L) Finset.univ = slab (m (tLoc d)) L := by
    rw [View.write_whole_univ]; rfl
  rw [ep, et]
  rw [wp_bind]
  sl_for (loopAt d L (slab (m (pLoc d)) L) (slab (m (tLoc d)) L)) $$ [Hbp' Hbt']
  · exact loop_step d L _ _
  · isplitr; · ipureintro; rfl
    isplitl [Hbp'] <;> iassumption
  iintro %acc ⟨%hacc, Hbp', Hbt'⟩
  subst hacc
  sl_exec
  have eA : ∀ x, tile_body.sl.dma4 m d L fr x = sumA (slab (m (pLoc d)) L) (slab (m (tLoc d)) L) x := by
    intro x; unfold tile_body.sl.dma4 tile_body.sl.Hbr'_2; exact back_A fr _ _ x
  have eB : ∀ x, tile_body.sl.dma4_1 m d L fr x = sumB (slab (m (pLoc d)) L) (slab (m (tLoc d)) L) x := by
    intro x; unfold tile_body.sl.dma4_1 tile_body.sl.Hbr'_2; exact back_B fr _ _ x
  ihave Ha := (Entails.of_eq (wrote_A m d L _ eA)) $$ Ha'
  ihave Hb := (Entails.of_eq (wrote_B m d L _ eB)) $$ Hb'
  sl_step
  isplitl [Hp' Ht' Ha Hb]
  · isplitl [Hp']; · iexact Hp'
    isplitl [Ht']; · iexact Ht'
    isplitl [Ha] <;> iassumption
  isplitl [Hbp' Hbt' Hbr' Hbufs]
  · isplitl [Hbp']; · iexists _; iexact Hbp'
    isplitl [Hbt']; · iexists _; iexact Hbt'
    isplitl [Hbr']; · iexists _; iexact Hbr'
    iexact Hbufs
  isplitl [Hs3 Hs4 Hs5 Hs6 Hsems]
  · isplitl [Hs3]; · iexact Hs3
    isplitl [Hs4]; · iexact Hs4
    isplitl [Hs5]; · iexact Hs5
    isplitl [Hs6]; · iexact Hs6
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Bce

end
-- ==== Proof.Body.lean ====
/- The TensorCore kernel's body at one grid point, with what it leaves: the scalar accumulator and, at the last point,
   the result. -/
module

public import proofs.«01_k».proof.Proof.Base
public import Idealize.ShloMosaic.Lib.Pipeline.Value

@[expose] public section

set_option maxRecDepth 16384

noncomputable section

namespace Cert.Proof.Bce

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The contents of a one-element memory cell holding `v`. -/
abbrev cell (v : F .f32) : Vec F S1 .f32 := fun _ => v

/-- The zero the first point stores. -/
abbrev zero32 : F .f32 := Scalar.ofBits .f32 0x00000000#32

/-- The first branch is taken at the first grid point. -/
abbrev isFirst (i : grid0.Coords) : Prop :=
  (Scalar.cmpi .ne (Scalar.extui (Scalar.cmpi .eq (BitVec.ofNat 32 (i 0).val) 0#32)) 0#32) = 1#1

/-- The second branch is taken at the last grid point. -/
abbrev isLast (i : grid0.Coords) : Prop := k0_cond2 i = 1#1

theorem hz1 : (![0] : Fin 1 → Nat) = fun _ => 0 := funext fun a => by fin_cases a; rfl
theorem hz2 : (![0, 0] : Fin 2 → Nat) = fun _ => 0 := funext fun a => by fin_cases a <;> rfl

/-- A cell's last store is what it holds. -/
theorem read_cell {κ : Kind} {sp : Space} (v : View sig κ sp S1 .f32) (f : BufTy.Contents (Elt F) v.ty) (w : Vec F S1 .f32)
    (L : List (View.Piece (Elt F) S1 .f32)) :
    v.read (Elt F) (v.writes (Elt F) f (⟨Rect.unit ![0] S1.size inb_S1_S1_0, w⟩ :: L)) = w := by
  rw [View.read_writes_eq_canon _ _ _ (fun y => ⟨_, List.mem_cons_self .., by
    rw [Rect.mem_set_unit]; intro a; fin_cases a; exact ⟨Nat.zero_le _, by simpa using (y 0).isLt⟩⟩)]
  exact View.canon_cons_unit_zero (S := S1) hz1 _ _ _

variable (c : Dev nD) (i : grid0.Coords)
  (a1 : Memref sig .tc .vmem S496x2048 .f32) (h1 : a1.IsWhole) (a2 : Memref sig .tc .vmem S496x2048 .f32) (h2 : a2.IsWhole)
  (a3 : Memref sig .tc .smem S1 .f32) (h3 : a3.IsWhole) (a4 : Memref sig .tc .smem S1 .f32) (h4 : a4.IsWhole)
  (x0 x1 : Vec F S496x2048 .f32)

/-- The first grid point: the accumulator starts from zero. -/
theorem body_first (hf : isFirst i) (hl : ¬ isLast i) (d : Vec F S1 .f32) (Q : PUnit → sProp 𝕄) :
    iprop(owns (c : Thread nD τ) a1 fullShare x0 ∗ owns (c : Thread nD τ) a2 fullShare x1
        ∗ owns (c : Thread nD τ) a3 fullShare d ∗ (∃ s, owns (c : Thread nD τ) a4 fullShare s)
        ∗ (iprop(owns (c : Thread nD τ) a1 fullShare x0 ∗ owns (c : Thread nD τ) a2 fullShare x1
            ∗ owns (c : Thread nD τ) a3 fullShare d ∗ owns (c : Thread nD τ) a4 fullShare (cell (k0_pay1 x0 x1 zero32))) -∗ Q ⟨⟩))
      ⊢ wp frame (wpE (defs₀ (F := F)) 𝒱₀ c none) Set.univ (cc0__tc_block_kernel i a1 h1 a2 h2 a3 h3 a4 h4) Q := by
  simp only [cc0__tc_block_kernel_eq_skeleton]; unfold cc0__tc_block_kernel_skel
  unfold owns
  iintro ⟨⟨%f0, %hf0, H0⟩, ⟨%f1, %hf1, H1⟩, ⟨%f2, %hf2, H2⟩, ⟨%s, %fs, %hfs, HS⟩, Hk⟩
  obtain rfl := h1.eq_unread hf0; obtain rfl := h2.eq_unread hf1
  sl_exec (disch := first | sl_exact hf | sl_exact hl)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact hf2
    iexact H2
  iexists _; isplitr
  swap; · iexact HS
  ipureintro
  sl_unfold_words
  rw [read_cell]
  simp only [View.readAt_eq_ld, h1.read_unread, h2.read_unread, View.ld_unit_zero (S := S496x2048) hz2]
  rfl

/-- A grid point in the middle: the accumulator goes on. -/
theorem body_mid (hf : ¬ isFirst i) (hl : ¬ isLast i) (d : Vec F S1 .f32) (s : F .f32) (Q : PUnit → sProp 𝕄) :
    iprop(owns (c : Thread nD τ) a1 fullShare x0 ∗ owns (c : Thread nD τ) a2 fullShare x1
        ∗ owns (c : Thread nD τ) a3 fullShare d ∗ owns (c : Thread nD τ) a4 fullShare (cell s)
        ∗ (iprop(owns (c : Thread nD τ) a1 fullShare x0 ∗ owns (c : Thread nD τ) a2 fullShare x1
            ∗ owns (c : Thread nD τ) a3 fullShare d ∗ owns (c : Thread nD τ) a4 fullShare (cell (k0_pay1 x0 x1 s))) -∗ Q ⟨⟩))
      ⊢ wp frame (wpE (defs₀ (F := F)) 𝒱₀ c none) Set.univ (cc0__tc_block_kernel i a1 h1 a2 h2 a3 h3 a4 h4) Q := by
  simp only [cc0__tc_block_kernel_eq_skeleton]; unfold cc0__tc_block_kernel_skel
  unfold owns
  iintro ⟨⟨%f0, %hf0, H0⟩, ⟨%f1, %hf1, H1⟩, ⟨%f2, %hf2, H2⟩, ⟨%fs, %hfs, HS⟩, Hk⟩
  obtain rfl := h1.eq_unread hf0; obtain rfl := h2.eq_unread hf1; obtain rfl := h4.eq_unread hfs
  sl_exec (disch := first | sl_exact hf | sl_exact hl)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact hf2
    iexact H2
  iexists _; isplitr
  swap; · iexact HS
  ipureintro
  sl_unfold_words
  rw [read_cell]
  simp only [View.readAt_eq_ld, h1.read_unread, h2.read_unread, h4.read_unread, View.ld_unit_zero (S := S496x2048) hz2,
    View.ld_unit_zero (S := S1) hz1]
  rfl

/-- The last grid point: the accumulator goes on and is copied to the result. -/
theorem body_last (hf : ¬ isFirst i) (hl : isLast i) (d : Vec F S1 .f32) (s : F .f32) (Q : PUnit → sProp 𝕄) :
    iprop(owns (c : Thread nD τ) a1 fullShare x0 ∗ owns (c : Thread nD τ) a2 fullShare x1
        ∗ owns (c : Thread nD τ) a3 fullShare d ∗ owns (c : Thread nD τ) a4 fullShare (cell s)
        ∗ (iprop(owns (c : Thread nD τ) a1 fullShare x0 ∗ owns (c : Thread nD τ) a2 fullShare x1
            ∗ owns (c : Thread nD τ) a3 fullShare (cell (k0_pay1 x0 x1 s))
            ∗ owns (c : Thread nD τ) a4 fullShare (cell (k0_pay1 x0 x1 s))) -∗ Q ⟨⟩))
      ⊢ wp frame (wpE (defs₀ (F := F)) 𝒱₀ c none) Set.univ (cc0__tc_block_kernel i a1 h1 a2 h2 a3 h3 a4 h4) Q := by
  simp only [cc0__tc_block_kernel_eq_skeleton]; unfold cc0__tc_block_kernel_skel
  unfold owns
  iintro ⟨⟨%f0, %hf0, H0⟩, ⟨%f1, %hf1, H1⟩, ⟨%f2, %hf2, H2⟩, ⟨%fs, %hfs, HS⟩, Hk⟩
  obtain rfl := h1.eq_unread hf0; obtain rfl := h2.eq_unread hf1; obtain rfl := h4.eq_unread hfs
  sl_exec (disch := first | sl_exact hf | sl_exact hl)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr
    swap; · iexact H2
    ipureintro
    sl_unfold_words
    rw [read_cell]
    simp only [View.readAt_eq_ld, h1.read_unread, h2.read_unread, h4.read_unread, View.ld_unit_zero (S := S496x2048) hz2,
      View.ld_unit_zero (S := S1) hz1]
    rfl
  iexists _; isplitr
  swap; · iexact HS
  ipureintro
  sl_unfold_words
  rw [read_cell]
  simp only [View.readAt_eq_ld, h1.read_unread, h2.read_unread, h4.read_unread, View.ld_unit_zero (S := S496x2048) hz2,
    View.ld_unit_zero (S := S1) hz1]
  rfl

end Cert.Proof.Bce

end
-- ==== Proof.Block.lean ====
/- The TensorCore call: what its windows carry, what the accumulator holds after each grid point, and the call's
   triple between the thread state it is entered from and the one it leaves. -/
module

public import proofs.«01_k».proof.Proof.Body

@[expose] public section

set_option maxRecDepth 16384

noncomputable section

namespace Cert.Proof.Bce

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The blocks -/

/-- The array index of row `j 0` of the `n`-th group of 496 rows. -/
def rowIdx (n : ℕ) (j : S496x2048.Idx) : S4096x2048.Idx
  | ⟨0, _⟩ => (⟨(496 * n + (j 0).val) % 4096, Nat.mod_lt _ (by decide)⟩ : Fin 4096)
  | ⟨1, _⟩ => (j 1 : Fin 2048)

theorem rowIdx_val (n : ℕ) (hn : n < 8) (j : S496x2048.Idx) (a : Fin 2) : (rowIdx n j a).val = ![496 * n, 0] a + (j a).val := by
  have h0 : (j 0).val < 496 := (j 0).isLt
  match a with
  | ⟨0, _⟩ => exact Nat.mod_eq_of_lt (by omega)
  | ⟨1, _⟩ => exact (Nat.zero_add _).symm

/-- Rows `496·n` to `496·n + 495` of an array of 4096 rows. -/
def rows {α : Type} (x : S4096x2048.Idx → α) (n : ℕ) : S496x2048.Idx → α := fun j => x (rowIdx n j)

/-- The accumulator before grid point `n`. -/
def tcAcc (p t : Vec F S4096x2048 .f32) : ℕ → F .f32
  | 0 => zero32
  | n + 1 => k0_pay1 (rows p n) (rows t n) (tcAcc p t n)

theorem coords0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem isFirst_iff (t : Fin cfg0.N) : isFirst (grid0.coords t) ↔ t.val = 0 := by
  have ht : t.val < 8 := Nat.lt_of_lt_of_eq t.isLt N_0
  simp only [isFirst, coords0]
  word_cmp

theorem isLast_iff (t : Fin cfg0.N) : isLast (grid0.coords t) ↔ t.val = 7 := by
  have ht : t.val < 8 := Nat.lt_of_lt_of_eq t.isLt N_0
  simp only [isLast, k0_cond2, coords0]
  word_cmp

theorem xsize0 : ∀ (t : Fin cfg0.N) a, (cfg0.win 0).xsize (cfg0.grid.coords t) a = (cfg0.win 0).size a := by decide +kernel
theorem xsize1 : ∀ (t : Fin cfg0.N) a, (cfg0.win 1).xsize (cfg0.grid.coords t) a = (cfg0.win 1).size a := by decide +kernel
theorem moved0 (t : Fin cfg0.N) (j : (cfg0.win 0).block.Idx) : (cfg0.win 0).moved (cfg0.grid.coords t) j = true :=
  ((cfg0.win 0).moved_iff _ j).mpr fun a => by rw [xsize0 t a]; exact (j a).isLt
theorem moved1 (t : Fin cfg0.N) (j : (cfg0.win 1).block.Idx) : (cfg0.win 1).moved (cfg0.grid.coords t) j = true :=
  ((cfg0.win 1).moved_iff _ j).mpr fun a => by rw [xsize1 t a]; exact (j a).isLt

theorem off0 : ∀ (t : Fin cfg0.N) a, (cfg0.win 0).kind.off ((cfg0.win 0).index t a) ((cfg0.win 0).size a) = ![496 * t.val, 0] a := by
  decide +kernel

/-- Window 0's block of an array, moved into its staging buffer over anything, is the array's rows. -/
theorem fill_rows0 (c : Dev nD) (t : Fin cfg0.N) (d) (x : Buf (Elt F) ((c : Thread nD τ).loc main_arg0)) :
    (cfg0.win 0).fill (cfg0.grid.coords t) d (((cfg0.win 0).blk t).view.read (Elt F) x) = rows x t.val := by
  funext j
  unfold Pipeline.Window.fill
  rw [dif_pos (moved0 t j)]
  have ht : t.val < 8 := Nat.lt_of_lt_of_eq t.isLt N_0
  rw [View.read_apply]
  unfold rows
  refine congrArg x (funext fun a => Fin.ext ?_)
  have hv := unit_val (s := S4096x2048) (fun a => (cfg0.win 0).kind.off ((cfg0.win 0).index t a) ((cfg0.win 0).size a))
    ((cfg0.win 0).xsize (cfg0.grid.coords t)) (fun a => Pipeline.Clip.OkAt.inb ((cfg0.win 0).hclip (cfg0.grid.coords t) a))
    (fun a => ⟨(j a).val, ((cfg0.win 0).moved_iff _ j).mp (moved0 t j) a⟩) a
  rw [off0] at hv
  have he : ((((cfg0.win 0).blk t).view.emb (fun a => ⟨(j a).val, ((cfg0.win 0).moved_iff _ j).mp (moved0 t j) a⟩)) a).val = _ := hv
  exact he.trans (rowIdx_val t.val ht j a).symm

theorem off1 : ∀ (t : Fin cfg0.N) a, (cfg0.win 1).kind.off ((cfg0.win 1).index t a) ((cfg0.win 1).size a) = ![496 * t.val, 0] a := by
  decide +kernel

/-- Window 1's block of an array, moved into its staging buffer over anything, is the array's rows. -/
theorem fill_rows1 (c : Dev nD) (t : Fin cfg0.N) (d) (x : Buf (Elt F) ((c : Thread nD τ).loc main_arg1)) :
    (cfg0.win 1).fill (cfg0.grid.coords t) d (((cfg0.win 1).blk t).view.read (Elt F) x) = rows x t.val := by
  funext j
  unfold Pipeline.Window.fill
  rw [dif_pos (moved1 t j)]
  have ht : t.val < 8 := Nat.lt_of_lt_of_eq t.isLt N_0
  rw [View.read_apply]
  unfold rows
  refine congrArg x (funext fun a => Fin.ext ?_)
  have hv := unit_val (s := S4096x2048) (fun a => (cfg0.win 1).kind.off ((cfg0.win 1).index t a) ((cfg0.win 1).size a))
    ((cfg0.win 1).xsize (cfg0.grid.coords t)) (fun a => Pipeline.Clip.OkAt.inb ((cfg0.win 1).hclip (cfg0.grid.coords t) a))
    (fun a => ⟨(j a).val, ((cfg0.win 1).moved_iff _ j).mp (moved1 t j) a⟩) a
  rw [off1] at hv
  have he : ((((cfg0.win 1).blk t).view.emb (fun a => ⟨(j a).val, ((cfg0.win 1).moved_iff _ j).mp (moved1 t j) a⟩)) a).val = _ := hv
  exact he.trans (rowIdx_val t.val ht j a).symm

/-! ## The windows' proof data -/

variable (m : (ℓ : Loc nD τ sig) → Buf (Elt F) ℓ)

abbrev scM : Memref sig .tc .smem S1 .f32 := Memref.whole cc0_scratch0

/-- The running sum before grid point `n`, on device `d`. -/
abbrev accAt (d : Dev nD) (n : ℕ) : F .f32 := tcAcc (m (pLoc d)) (m (tLoc d)) n

/-- The invariant before grid point `n`: the accumulator at its running sum, once it has one. -/
def inv0 (d : Dev nD) : ℕ → sProp 𝕄
  | 0 => iprop(Pipeline.scopedRest spec0 d ∗ (∃ r, prngReg d r))
  | n + 1 => iprop(owns (d : Thread nD τ) scM fullShare (cell (accAt m d (n + 1))) ∗ (∃ r, prngReg d r))

theorem phiA0 (d : Dev nD) :
    (iprop(Pipeline.scopedRest spec0 d ∗ (∃ r, prngReg d r)) : sProp 𝕄) = iprop((∃ v, owns (d : Thread nD τ) scM fullShare v) ∗ (∃ r, prngReg d r)) := by
  rw [scopedRest0_eq]; simp only [scM, owns_whole]; try rfl

/-- The proof data of the one pipeline: each input's buffer holds its rows, the output's holds the running sum, and
    the core owes throughout what it owes the SparseCores. -/
def dats (_ : Fin 1) (d : Dev nD) : Dat τ (Elt F) (HIx 1) ℕ UU ℕ cfg0 d where
  A w := m ((d : Thread nD τ).loc (Pipeline.arrRef spec0 w))
  after w t := match w with
    | ⟨0, _⟩ => rows (m (pLoc d)) t.val
    | ⟨1, _⟩ => rows (m (tLoc d)) t.val
    | ⟨2, _⟩ => cell (accAt m d (t.val + 1))
  Φ t := inv0 m d t.val
  q _ := fullShare
  owed _ := (K (F := F)).Otc d 0
  recorded _ := {p | (K (F := F)).lev (T d, p.1) p.2 ≤ 0}

theorem A_eq (d : Dev nD) (w : Fin cfg0.W) : (dats m 0 d).A w = m ((d : Thread nD τ).loc (Pipeline.arrRef spec0 w)) := by
  dsimp only [dats]
theorem after0_0 (d : Dev nD) (t : Fin cfg0.N) : (dats m 0 d).after 0 t = rows (m (pLoc d)) t.val := by dsimp only [dats]
theorem after0_1 (d : Dev nD) (t : Fin cfg0.N) : (dats m 0 d).after 1 t = rows (m (tLoc d)) t.val := by dsimp only [dats]
theorem after0_2 (d : Dev nD) (t : Fin cfg0.N) : (dats m 0 d).after 2 t = cell (accAt m d (t.val + 1)) := by dsimp only [dats]

theorem before0_0 (d : Dev nD) (t : Fin cfg0.N) (x) : (dats m 0 d).before 0 t x = rows (m (pLoc d)) t.val :=
  ((dats m 0 d).before_in_eq_fetched 0 rfl (fun _ => rfl)
    (fun t t' h => funext fun a => congrArg (fun n => Pipeline.Clip.of n ((cfg0.win 0).size a) (S4096x2048.size a)) (congrFun h a))
    (fun t => by
      rw [after0_0, ← fill_rows0 d t (rows (m (pLoc d)) t.val) (m (pLoc d)), Pipeline.Window.cut_fill]
      unfold Dat.blockOf; rw [A_eq]) t x).trans
    (by unfold Dat.fetched Dat.blockOf; rw [A_eq]; exact fill_rows0 d t x (m (pLoc d)))

theorem before0_1 (d : Dev nD) (t : Fin cfg0.N) (x) : (dats m 0 d).before 1 t x = rows (m (tLoc d)) t.val :=
  ((dats m 0 d).before_in_eq_fetched 1 rfl (fun _ => rfl)
    (fun t t' h => funext fun a => congrArg (fun n => Pipeline.Clip.of n ((cfg0.win 1).size a) (S4096x2048.size a)) (congrFun h a))
    (fun t => by
      rw [after0_1, ← fill_rows1 d t (rows (m (tLoc d)) t.val) (m (tLoc d)), Pipeline.Window.cut_fill]
      unfold Dat.blockOf; rw [A_eq]) t x).trans
    (by unfold Dat.fetched Dat.blockOf; rw [A_eq]; exact fill_rows1 d t x (m (tLoc d)))

theorem live0_0 : ∀ t : Fin cfg0.N, cfg0.idle 0 (grid0.coords t) = false := fun _ => rfl
theorem live0_1 : ∀ t : Fin cfg0.N, cfg0.idle 1 (grid0.coords t) = false := fun _ => rfl
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

abbrev ms0 (t : Fin cfg0.N) : Memref sig .tc .vmem S496x2048 .f32 := win0_0.stage (cfg0.slots t 0)
abbrev ms1 (t : Fin cfg0.N) : Memref sig .tc .vmem S496x2048 .f32 := win0_1.stage (cfg0.slots t 1)
abbrev ms2 (t : Fin cfg0.N) : Memref sig .tc .smem S1 .f32 := win0_2.stage (cfg0.slots t 2)

/-! ## The body at every grid point -/

def bodyPre (d : Dev nD) (t : Fin cfg0.N) : sProp 𝕄 :=
  iprop((dats m 0 d).Φ t.castSucc ∗ (dats m 0 d).owesAt none t.castSucc
    ∗ (∃ x, owns (d : Thread nD τ) (ms0 t) fullShare ((dats m 0 d).before 0 t x))
    ∗ (∃ x, owns (d : Thread nD τ) (ms1 t) fullShare ((dats m 0 d).before 1 t x))
    ∗ (∃ x, owns (d : Thread nD τ) (ms2 t) fullShare ((dats m 0 d).before 2 t x)))

def bodyPost (d : Dev nD) (t : Fin cfg0.N) : sProp 𝕄 :=
  iprop((dats m 0 d).Φ t.succ ∗ (dats m 0 d).owesAt none t.succ
    ∗ (dats m 0 d).leavesExact 0 t ∗ (dats m 0 d).leavesExact 1 t ∗ (dats m 0 d).leavesExact 2 t)

theorem phi_castSucc (d : Dev nD) (t : Fin cfg0.N) : (dats m 0 d).Φ t.castSucc = inv0 m d t.val := by
  dsimp only [dats]; rfl

set_option maxHeartbeats 1600000 in
theorem sound_body (d : Dev nD) (t : Fin cfg0.N) :
    bodyPre m d t ⊢ wp frame (wpE (defs₀ (F := F)) 𝒱₀ d none) Set.univ (bodyAt0 t) (fun _ => bodyPost m d t) := by
  unfold bodyPre bodyPost bodyAt0
  simp only [before0_0, before0_1]
  rw [show (dats m 0 d).owesAt none t.succ = (dats m 0 d).owesAt none t.castSucc from rfl]
  rw [show (dats m 0 d).Φ t.succ = inv0 m d (t.val + 1) from rfl, phi_castSucc]
  rw [show (dats m 0 d).leavesExact 0 t = owns (d : Thread nD τ) (ms0 t) fullShare ((dats m 0 d).after 0 t) from by
    unfold Dat.leavesExact; rw [live0_0 t], after0_0]
  rw [show (dats m 0 d).leavesExact 1 t = owns (d : Thread nD τ) (ms1 t) fullShare ((dats m 0 d).after 1 t) from by
    unfold Dat.leavesExact; rw [live0_1 t], after0_1]
  by_cases hl : isLast (grid0.coords t)
  · have h7 := (isLast_iff t).mp hl
    have hf : ¬ isFirst (grid0.coords t) := fun h => by have := (isFirst_iff t).mp h; omega
    rw [show (dats m 0 d).leavesExact 2 t = owns (d : Thread nD τ) (ms2 t) fullShare ((dats m 0 d).after 2 t) from by
      unfold Dat.leavesExact; rw [live0_2 t hl], after0_2]
    obtain ⟨n, hn⟩ : ∃ n, t.val = n + 1 := ⟨6, h7⟩
    rw [hn]
    unfold inv0
    iintro ⟨⟨HS, Hg⟩, Ho, ⟨%d0, H0⟩, ⟨%d1, H1⟩, ⟨%d2, H2⟩⟩
    iapply (body_last d (grid0.coords t) _ _ _ _ _ _ _ _ (rows (m (pLoc d)) (n + 1)) (rows (m (tLoc d)) (n + 1)) hf hl)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 d) 2 t (idle0_2 t hl) (noFlush0_2 t hl)]
    by_cases hf : isFirst (grid0.coords t)
    · have h0 := (isFirst_iff t).mp hf
      rw [h0]
      unfold inv0
      rw [phiA0]
      iintro ⟨⟨HS, Hg⟩, Ho, ⟨%d0, H0⟩, ⟨%d1, H1⟩, ⟨%d2, H2⟩⟩
      iapply (body_first d (grid0.coords t) _ _ _ _ _ _ _ _ (rows (m (pLoc d)) 0) (rows (m (tLoc d)) 0) hf hl)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · obtain ⟨n, hn⟩ : ∃ n, t.val = n + 1 := Nat.exists_eq_succ_of_ne_zero fun h => hf ((isFirst_iff t).mpr h)
      rw [hn]
      unfold inv0
      iintro ⟨⟨HS, Hg⟩, Ho, ⟨%d0, H0⟩, ⟨%d1, H1⟩, ⟨%d2, H2⟩⟩
      iapply (body_mid d (grid0.coords t) _ _ _ _ _ _ _ _ (rows (m (pLoc d)) (n + 1)) (rows (m (tLoc d)) (n + 1)) hf hl)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

theorem defs₀_row (t : Fin cfg0.N) : defs₀ (F := F) .tc cfg0.body (cfg0.bodyArgs t (cfg0.slots t)) = bodyAt0 t := by
  rfl

theorem body_obligation (d : Dev nD) : BodyObligation (dats (F := F) m 0 d) (defs₀ (F := F)) 𝒱₀ none Set.univ := fun t => by
  rw [bigSep_W0, bigSep_W0, defs₀_row]
  exact triple_restated (sound_body m d t) rfl .rfl fun _ => .rfl

/-! ## The result's array -/

theorem flushed_cell (d : Dev nD) (t : Fin cfg0.N) (hf : (cfg0.win 2).flush t = true) :
    (dats m 0 d).flushed 2 t = ((cfg0.win 2).blk t).view.read (Elt F) (cell (accAt m d 8)) := by
  have h7 : t.val = 7 := by
    have := (flush0_2 t).mp hf; have := Nat.lt_of_lt_of_eq t.isLt N_0; omega
  obtain rfl : t = t0_7 := Fin.ext h7
  show (cfg0.win 2).cut (grid0.coords t0_7) ((dats m 0 d).after 2 t0_7) = _
  rw [after0_2]
  rfl

theorem final_cell (d : Dev nD) : (dats m 0 d).arrAt 2 cfg0.N = cell (accAt m d 8) :=
  (dats m 0 d).arrAt_eq_of_cover 2 (cell (accAt m d 8)) (flushed_cell m d) fun i =>
    ⟨t0_7, (flush0_2 t0_7).mpr rfl, by
      show i ∈ ((View.whole main_v0).slice (win0_2.rect t0_7)).set
      rw [View.set_slice_whole, Rect.mem_set_unit]
      intro a
      match a with
      | ⟨0, _⟩ =>
        rw [show win0_2.kind.off (win0_2.index t0_7 ⟨0, by decide⟩) (win0_2.size ⟨0, by decide⟩) = 0 from by decide +kernel,
          show win0_2.xsize (grid0.coords t0_7) ⟨0, by decide⟩ = 1 from by decide +kernel]
        exact ⟨Nat.zero_le _, (i 0).isLt⟩⟩

/-! ## The call's triple -/

abbrev adm : (p : Fin 1) → (pcfgs (F := F) p).Adm := fun p => (cfgs p).toPCfg_adm

theorem owed_none (d : Dev nD) (g : GSem nD τ sig) : (K (F := F)).Otc d 0 g none = 0 := by
  by_contra h
  have := (K (F := F)).lev_of_Otc_pos (Nat.pos_of_ne_zero h)
  exact absurd this (by show ¬ (_ ≤ 0); omega)

abbrev v0Loc (d : Dev nD) : Loc nD τ sig := (SparseCore.T d).loc main_v0

/-- What the core owes at the call, with its recorded waits at the bottom level. -/
abbrev owing (d : Dev nD) : sProp 𝕄 :=
  iprop(∃ W, ⌜(K (F := F)).WBelow (SparseCore.T d) W 0⌝ ∗ owes (SparseCore.T d) ((K (F := F)).Otc d 0) W)

/-- The state the TensorCore's call is entered from. -/
abbrev callPre (d : Dev nD) : sProp 𝕄 :=
  iprop(unscopedBufs d (fun b => m ((SparseCore.T d).loc b)) ∗ owing (F := F) d ∗ (∃ r, prngReg d r))

/-- The state it leaves: the two inputs as they were, the sum over the first 3968 rows, everything else untouched. -/
abbrev callPost (d : Dev nD) : sProp 𝕄 :=
  iprop((pLoc d ↦{fullShare} m (pLoc d)) ∗ (tLoc d ↦{fullShare} m (tLoc d)) ∗ (v0Loc d ↦{fullShare} cell (accAt m d 8))
    ∗ Pipeline.unscopedRest spec0 d (fun b => m ((SparseCore.T d).loc b)) ∗ owing (F := F) d ∗ (∃ r, prngReg d r))

theorem waits_bottom (d : Dev nD) (W : Waits sig (HIx 1))
    (h : ∀ p ∈ W, p ∈ (dats m 0 d).bound none (Fin.last cfg0.N)) : (K (F := F)).WBelow (SparseCore.T d) W 0 := by
  intro p hp
  rcases h p hp with h | ⟨w, s, rfl⟩
  · exact h
  · exact Nat.le_refl 0

set_option backward.isDefEq.respectTransparency.types false in
def region : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation m d).loose
  hwaits d := Pipeline.cellsWaits_intro _ _ _ _ _ fun w s t => (K (F := F)).mayWait_none _ (owed_none d)
  pre d := callPre m d
  post d := callPost m d
  X d := iprop(∃ r, prngReg d r)
  Y d := iprop(∃ r, prngReg d r)
  Z d := Pipeline.unscopedRest spec0 d (fun b => m ((SparseCore.T d).loc b))
  hentry d := by
    have hsplit := Pipeline.arrays_of_unscopedBufs (pcfgs (F := F)) adm (dats m) launch0.win launch0.arr_whole d
      ((dats m 0 d).share_full fun _ => rfl) (fun b => m ((SparseCore.T d).loc b)) (A_eq m d)
    iintro ⟨⟨Hub, HO, Hp⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hr
  hin d := by
    rw [show (dats m 0 d).Φ 0 = inv0 m d 0 from rfl]; unfold inv0
    iintro ⟨Hp, -, Hr⟩
    isplitl [Hr]; · iexact Hr
    iexact Hp
  hout d := by
    rw [show (dats m 0 d).Φ (Fin.last cfg0.N) = inv0 m d 8 from rfl]; unfold inv0
    rw [Pipeline.ownSems0_none]
    iintro ⟨HS, Hp⟩
    isplitl [Hp]; · iexact Hp
    isplitr; · iempintro
    rw [scopedRest0_eq]
    simp only [owns_whole]
    iexists _; iexact HS
  hexit d := by
    rw [Pipeline.arrays_eq (Pipeline.pin (pcfgs (F := F)) adm) (dats m) 0 d launch0.arr_whole ((dats m 0 d).share_full fun _ => rfl)]
    rw [bigSep_W0, show (dats m 0 d).arrAt 0 cfg0.N = m (pLoc d) from ((dats m 0 d).arrAt_in 0 rfl _).trans (A_eq m d 0),
      show (dats m 0 d).arrAt 1 cfg0.N = m (tLoc d) from ((dats m 0 d).arrAt_in 1 rfl _).trans (A_eq m d 1), final_cell]
    iintro ⟨⟨Hp, Ht, Hv⟩, HO, HY, HZ⟩
    imodintro
    isplitl [Hp]; · iexact Hp
    isplitl [Ht]; · iexact Ht
    isplitl [Hv]; · iexact Hv
    isplitl [HZ]; · iexact HZ
    isplitl [HO]
    · unfold Pipeline.Dat.owesAt Pipeline.owesWithin
      icases HO with ⟨%W, %hW, HO⟩; iexists W; isplitr; · ipureintro; exact waits_bottom m d W hW
      iexact HO
    iexact HY

end Cert.Proof.Bce
-- ==== Proof.Main.lean ====
/- The kernel's run: what the launch hands to the two SparseCores' tasks and takes back, @main on the TensorCore, and
   the whole program from any launch memory. -/
module

public import proofs.«01_k».proof.Proof.Tile
public import proofs.«01_k».proof.Proof.Block

@[expose] public section

set_option maxRecDepth 16384

noncomputable section

namespace Cert.Proof.Bce

open Cert.KernelIdeal Cert.KernelIdeal.Gen
open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the handshakes carry -/

/-- A task's part: its shares of the arguments, its two groups of the result at contents `f`. -/
abbrev part (d : Dev nD) (L : grid1.Coords) (f : Buf (Elt F) (oLoc d)) : sProp 𝕄 :=
  iprop(pSh m d (wid L) ∗ tSh m d (wid L) ∗ outA d L f ∗ outB d L f)

/-- The task that SparseCore `c`'s subcore `i` runs. -/
abbrev task (c : Fin 2) (i : Fin 16) : grid1.Coords := coordsV c i

def P : (K (F := F)).Pay (nD := nD) (Val := Elt F) (Name := ℕ) (U := UU) where
  st := fun q d c => match q with
    | 0 => bigSep Finset.univ fun i : Fin 16 => part m d (task (Fin.cast nCore_sc c) i) (m (oLoc d))
  dn := fun q d c => match q with
    | 0 => bigSep Finset.univ fun i : Fin 16 => part m d (task (Fin.cast nCore_sc c) i) (scRes m d)
  go := fun q d c i => match q with | 0 => part m d (task (Fin.cast nCore_sc c) (Fin.cast nSub_sc i)) (m (oLoc d))
  td := fun q d c i => match q with | 0 => part m d (task (Fin.cast nCore_sc c) (Fin.cast nSub_sc i)) (scRes m d)
  x := fun _ _ => iprop(emp)

instance P_storable : (P (F := F) m).IsStorable where
  st q d c := match q with
    | 0 => (inferInstance : BI.Storable (upEmb : UEmb _ 𝕄)
        (bigSep Finset.univ fun i : Fin 16 => part m d (task (Fin.cast nCore_sc c) i) (m (oLoc d))))
  dn q d c := match q with
    | 0 => (inferInstance : BI.Storable (upEmb : UEmb _ 𝕄)
        (bigSep Finset.univ fun i : Fin 16 => part m d (task (Fin.cast nCore_sc c) i) (scRes m d)))
  go q d c i := match q with
    | 0 => (inferInstance : BI.Storable (upEmb : UEmb _ 𝕄) (part m d (task (Fin.cast nCore_sc c) (Fin.cast nSub_sc i)) (m (oLoc d))))
  td q d c i := match q with
    | 0 => (inferInstance : BI.Storable (upEmb : UEmb _ 𝕄) (part m d (task (Fin.cast nCore_sc c) (Fin.cast nSub_sc i)) (scRes m d)))

/-! ## The tasks' obligation -/

theorem defs₀_vector (c : Fin τ.nSC) (s : Fin τ.nSub) :
    defs₀ (F := F) (.scVector c s) 1 ()
      = SparseCore.onTile hcore1 hsub1 (fun c s => cc1__sc_body (coordsV c s)
          argP (Memref.isWhole_whole _) argT (Memref.isWhole_whole _) argO (Memref.isWhole_whole _)
          bufP (Memref.isWhole_whole _) bufT (Memref.isWhole_whole _) bufR (Memref.isWhole_whole _)
          cc1_scratch3 cc1_scratch4 cc1_scoped0 cc1_scoped1) ⟨⟩ c s := rfl

omit [FloatOps F] [Named F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts O W hO).trans (wp_mono frame _ _ fun _ => weaken_waits)

theorem vecSplit : (K (F := F)).VecSplit' (P m) 0 := by
  intro d c
  show (bigSep Finset.univ fun i : Fin 16 => part m d (task (Fin.cast nCore_sc c) i) (m (oLoc d)))
    ⊢ |={Set.univ}=> iprop((bigSep Finset.univ fun i : Fin 16 => part m d (task (Fin.cast nCore_sc c) i) (m (oLoc d)))
      ∗ ((bigSep Finset.univ fun i : Fin 16 => part m d (task (Fin.cast nCore_sc c) i) (scRes m d))
          -∗ bigSep Finset.univ fun i : Fin 16 => part m d (task (Fin.cast nCore_sc c) i) (scRes m d)))
  iintro H; imodintro
  isplitl [H]; · iexact H
  iintro H; iexact H

/-! ## The arguments and the result, split among the thirty-two tasks -/

omit [FloatOps F] [Named F] in
theorem mem_setA (L : grid1.Coords) (j : S1024.Idx) : j ∈ setA L ↔ (wid L).val * 16 ≤ (j 0).val ∧ (j 0).val < (wid L).val * 16 + 16 := by
  show j ∈ ((View.whole main_v2_scv).slice (rectA L)).set ↔ _
  rw [View.set_slice_whole, Rect.mem_set_unit, k1_off3_val]
  exact ⟨fun h => h 0, fun h a => match a with | 0 => h⟩
omit [FloatOps F] [Named F] in
theorem mem_setB (L : grid1.Coords) (j : S1024.Idx) :
    j ∈ setB L ↔ 512 + (wid L).val * 16 ≤ (j 0).val ∧ (j 0).val < 512 + (wid L).val * 16 + 16 := by
  show j ∈ ((View.whole main_v2_scv).slice (rectB L)).set ↔ _
  rw [View.set_slice_whole, Rect.mem_set_unit, k1_off4_val]
  exact ⟨fun h => h 0, fun h a => match a with | 0 => h⟩

theorem wid_taskOf (n : Fin 32) : wid (taskOf n) = n := by
  apply Fin.ext
  show n.val / 2 * 2 + n.val % 2 = n.val
  omega

/-- The tasks by SparseCore and subcore, and by number. -/
def taskNo : Fin 2 × Fin 16 ≃ Fin 32 where
  toFun x := wid (task x.1 x.2)
  invFun n := ((taskOf n) 0, (taskOf n) 1)
  left_inv x := by
    have h := taskOf_wid (task x.1 x.2)
    exact Prod.ext (congrFun h 0) (congrFun h 1)
  right_inv n := by
    have : task ((taskOf n) 0) ((taskOf n) 1) = taskOf n := by funext a; match a with | 0 => rfl | 1 => rfl
    show wid (task ((taskOf n) 0) ((taskOf n) 1)) = n
    rw [this, wid_taskOf]

omit [FloatOps F] [Named F] in
theorem groups_disjoint {x y : Bool × Fin 32} (h : x ≠ y) :
    Disjoint (if x.1 then setA (taskOf x.2) else setB (taskOf x.2)) (if y.1 then setA (taskOf y.2) else setB (taskOf y.2)) := by
  rw [Finset.disjoint_left]
  obtain ⟨bx, nx⟩ := x
  obtain ⟨bY, ny⟩ := y
  intro j hx hy
  apply h
  have hnx := nx.isLt
  have hny := ny.isLt
  cases bx <;> cases bY <;> simp only [if_true, if_false, Bool.false_eq_true, mem_setA, mem_setB, wid_taskOf] at hx hy
  · exact Prod.ext rfl (Fin.ext (by show nx.val = ny.val; omega))
  · exact absurd hx (by omega)
  · exact absurd hx (by omega)
  · exact Prod.ext rfl (Fin.ext (by show nx.val = ny.val; omega))

omit [FloatOps F] [Named F] in
theorem groups_cover :
    (Finset.univ : Finset (Bool × Fin 32)).biUnion (fun x => if x.1 then setA (taskOf x.2) else setB (taskOf x.2)) = (Finset.univ : Finset S1024.Idx) := by
  refine Finset.eq_univ_iff_forall.mpr fun j => ?_
  have hj : (j 0).val < 1024 := (j 0).isLt
  rw [Finset.mem_biUnion]
  by_cases h : (j 0).val < 512
  · refine ⟨(true, ⟨(j 0).val / 16, by omega⟩), Finset.mem_univ _, ?_⟩
    rw [if_pos rfl, mem_setA, wid_taskOf]
    show (j 0).val / 16 * 16 ≤ _ ∧ _ < (j 0).val / 16 * 16 + 16
    omega
  · refine ⟨(false, ⟨((j 0).val - 512) / 16, by omega⟩), Finset.mem_univ _, ?_⟩
    rw [if_neg Bool.false_ne_true, mem_setB, wid_taskOf]
    show 512 + ((j 0).val - 512) / 16 * 16 ≤ _ ∧ _ < 512 + ((j 0).val - 512) / 16 * 16 + 16
    omega

omit [FloatOps F] [Named F] in
theorem out_groups (d : Dev nD) (f : Buf (Elt F) (oLoc d)) :
    (oLoc d ↦{fullShare} f : sProp 𝕄)
      = iprop((bigSep Finset.univ fun n : Fin 32 => outA d (taskOf n) f) ∗ bigSep Finset.univ fun n : Fin 32 => outB d (taskOf n) f) := by
  have h : (oLoc d ↦{fullShare} f : sProp 𝕄) = bigSep Finset.univ fun x : Bool × Fin 32 =>
      (oLoc d ↦[if x.1 then setA (taskOf x.2) else setB (taskOf x.2)]{fullShare} f : sProp 𝕄) := by
    rw [← pointsTo_biUnion Finset.univ (ℓ := oLoc d) (fun x : Bool × Fin 32 => if x.1 then setA (taskOf x.2) else setB (taskOf x.2))
      (fun x _ y _ h => groups_disjoint h), groups_cover]; try rfl
  rw [h, bigSep_univ_prod, show (Finset.univ : Finset Bool) = {true, false} from rfl, SparseCore.bigSep_insert' (by decide), bigSep_singleton]
  rfl

theorem parts_eq (d : Dev nD) (f : Buf (Elt F) (oLoc d)) :
    (bigSep Finset.univ fun c : Fin 2 => bigSep Finset.univ fun i : Fin 16 => part m d (task c i) f)
      = iprop((pLoc d ↦{fullShare} m (pLoc d)) ∗ (tLoc d ↦{fullShare} m (tLoc d)) ∗ (oLoc d ↦{fullShare} f)) := by
  have e : (bigSep Finset.univ fun c : Fin 2 => bigSep Finset.univ fun i : Fin 16 => part m d (task c i) f)
      = bigSep Finset.univ fun n : Fin 32 => iprop(pSh m d n ∗ tSh m d n ∗ outA d (taskOf n) f ∗ outB d (taskOf n) f) := by
    rw [bigSep_univ_equiv taskNo, bigSep_univ_prod]
    refine bigSep_congr fun c _ => bigSep_congr fun i _ => ?_
    show part m d (task c i) f = iprop(pSh m d (wid (task c i)) ∗ tSh m d (wid (task c i))
      ∗ outA d (taskOf (wid (task c i))) f ∗ outB d (taskOf (wid (task c i))) f)
    rw [taskOf_wid]
  rw [e, bigSep_sep', bigSep_sep', bigSep_sep', ← out_groups,
    show (pLoc d ↦{fullShare} m (pLoc d) : sProp 𝕄) = bigSep Finset.univ fun n : Fin 32 => pSh m d n from
      ShareLeaves.pointsTo_leaves Finset.univ (m (pLoc d)) 5 fullShare,
    show (tLoc d ↦{fullShare} m (tLoc d) : sProp 𝕄) = bigSep Finset.univ fun n : Fin 32 => tSh m d n from
      ShareLeaves.pointsTo_leaves Finset.univ (m (tLoc d)) 5 fullShare]

theorem done_eq (d : Dev nD) : (bigSep Finset.univ fun c : Fin ((K (F := F)).nCore 0) => (P m).dn 0 d c)
    = iprop((pLoc d ↦{fullShare} m (pLoc d)) ∗ (tLoc d ↦{fullShare} m (tLoc d)) ∗ (oLoc d ↦{fullShare} scRes m d)) :=
  parts_eq m d (scRes m d)

/-! ## The launch's ghost state -/

abbrev pins := Pipeline.pin (pcfgs (F := F)) adm

def u₀ : UU :=
  (initOf (K (F := F)).hsCells (K (F := F)).hsToks,
    (initOf (Pipeline.cells (nD := nD) (τ := τ) (pins (F := F)) cellOf_inj) (Pipeline.launchToks (nD := nD) (τ := τ) (pins (F := F)) cellOf_inj), 1))

/-- What the launch deals the TensorCore for its windows' staging cells. -/
abbrev G (d : Dev nD) : sProp 𝕄 :=
  iprop(Pipeline.cellsGhost (pins (F := F)) EP 0 d ∗ Pipeline.toksInit (pins (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (pins (F := F)) EP cellOf_inj) $$ HP with ⟨Hg, Ht⟩
  imodintro
  isplitl [HH]; · iexact HH
  have e : ∀ Φ : Fin 1 → Dev nD → sProp 𝕄,
      (bigSep Finset.univ fun c : Dev nD => bigSep Finset.univ fun p : Fin 1 => Φ p c) = bigSep Finset.univ fun c : Dev nD => Φ 0 c :=
    fun Φ => bigSep_congr fun c _ => bigSep_univ_of_subsingleton (0 : Fin 1)
  isplitl [Hg Ht]
  · rw [bigSep_sep']
    isplitl [Hg]
    · iapply (Entails.of_eq (e fun p c => Pipeline.cellsGhost (pins (F := F)) EP p c)); iexact Hg
    · iapply (Entails.of_eq (e fun p c => Pipeline.toksInit (pins (F := F)) EP p c)); iexact Ht
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-! ## @main on the TensorCore -/

/-- The kernel's result: the TensorCore's sum and the two sums of the SparseCores' lanes, weighted, negated and divided. -/
def result (p t : Vec F S4096x2048 .f32) : Vec F S_ .f32 :=
  Host.divf (Host.negf (addf (shapeCast S_ (cell (tcAcc p t 8)) shapeCasts_S1_S_)
      (mulf (constant S_ .f32 0x3F317218#32)
        (addf (Host.reduceAdd (extractStridedSlice S512 ![0] (scOut p t) slices_S1024_S512_0) (constant S_ .f32 0x00000000#32) reducesTo_S512_S_d0 h_S_)
          (mulf (constant S_ .f32 0x41973D19#32)
            (Host.reduceAdd (extractStridedSlice S512 ![512] (scOut p t) slices_S1024_S512_512) (constant S_ .f32 0x00000000#32) reducesTo_S512_S_d0 h_S_))))))
    (constant S_ .f32 0x4B000000#32)

abbrev rLoc (d : Dev nD) : Loc nD τ sig := (SparseCore.T d).loc main_v12

abbrev FIN (d : Dev nD) : sProp 𝕄 :=
  iprop((pLoc d ↦{fullShare} m (pLoc d)) ∗ (tLoc d ↦{fullShare} m (tLoc d)) ∗ (rLoc d ↦{fullShare} result (F := F) (m (pLoc d)) (m (tLoc d))))

/-! ### The host operations -/

abbrev dv (b : Ref sig .tc) : DevRef τ sig := Proc.devRef .tc b

/-- The arrays other than the two arguments. -/
def arrs : Finset (DevRef τ sig) :=
  {dv main_v0, dv main_v1, dv main_v2, dv main_v3, dv main_cst, dv main_v4, dv main_v5, dv main_cst_0, dv main_v6, dv main_cst_1, dv main_v7,
    dv main_v8, dv main_cst_2, dv main_v9, dv main_v10, dv main_v11, dv main_cst_3, dv main_v12}

def opReshape : HloOp τ sig (Elt F) := StableHlo.reshape main_v0 main_v1 (rfl : (.f32 : EltTy) = .f32) shapeCasts_S1_S_

/-- The host operations after the SparseCores' call. -/
def opsTail : List (HloOp τ sig (Elt F)) :=
  [StableHlo.unary main_v2 main_v3 ((extractStridedSlice S512 ![0] · slices_S1024_S512_0) : (⟨S1024, .f32⟩ : BufTy).Contents (Elt F) → (⟨S512, .f32⟩ : BufTy).Contents (Elt F)),
    StableHlo.nullary main_cst (constant S_ .f32 0x00000000#32),
    StableHlo.binary main_v3 main_cst main_v4 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v2 main_v5 ((extractStridedSlice S512 ![512] · slices_S1024_S512_512) : (⟨S1024, .f32⟩ : BufTy).Contents (Elt F) → (⟨S512, .f32⟩ : BufTy).Contents (Elt F)),
    StableHlo.nullary main_cst_0 (constant S_ .f32 0x00000000#32),
    StableHlo.binary main_v5 main_cst_0 main_v6 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_1 (constant S_ .f32 0x41973D19#32),
    StableHlo.binary main_cst_1 main_v6 main_v7 (mulf : (⟨S_, .f32⟩ : BufTy).Contents (Elt F) → (⟨S_, .f32⟩ : BufTy).Contents (Elt F) → (⟨S_, .f32⟩ : BufTy).Contents (Elt F)),
    StableHlo.binary main_v4 main_v7 main_v8 (addf : (⟨S_, .f32⟩ : BufTy).Contents (Elt F) → (⟨S_, .f32⟩ : BufTy).Contents (Elt F) → (⟨S_, .f32⟩ : BufTy).Contents (Elt F)),
    StableHlo.nullary main_cst_2 (constant S_ .f32 0x3F317218#32),
    StableHlo.binary main_cst_2 main_v8 main_v9 (mulf : (⟨S_, .f32⟩ : BufTy).Contents (Elt F) → (⟨S_, .f32⟩ : BufTy).Contents (Elt F) → (⟨S_, .f32⟩ : BufTy).Contents (Elt F)),
    StableHlo.binary main_v1 main_v9 main_v10 (addf : (⟨S_, .f32⟩ : BufTy).Contents (Elt F) → (⟨S_, .f32⟩ : BufTy).Contents (Elt F) → (⟨S_, .f32⟩ : BufTy).Contents (Elt F)),
    StableHlo.unary main_v10 main_v11 (Host.negf : (⟨S_, .f32⟩ : BufTy).Contents (Elt F) → (⟨S_, .f32⟩ : BufTy).Contents (Elt F)),
    StableHlo.nullary main_cst_3 (constant S_ .f32 0x4B000000#32),
    StableHlo.binary main_v11 main_cst_3 main_v12 (Host.divf : (⟨S_, .f32⟩ : BufTy).Contents (Elt F) → (⟨S_, .f32⟩ : BufTy).Contents (Elt F) → (⟨S_, .f32⟩ : BufTy).Contents (Elt F))]

theorem main_steps (d : Dev nD) : main (F := F) d =
    (Prog.lift (.customCall (SparseCore.inner (Pipeline.entry 0)) ()) >>= fun _ =>
      (hlo rfl (opReshape (F := F)) fun _ => .ret (⟨⟩ : PUnit)) >>= fun _ =>
      (K (F := F)).run d 0 >>= fun _ => StableHlo.seq opsTail >>= fun _ => pure ⟨⟩) := by
  simp only [opsTail, StableHlo.seq, bind_assoc, pure_bind]
  rfl

theorem held_arrs (d : Dev nD) (W : Valuation τ sig (Elt F)) :
    (StableHlo.held (SparseCore.T d) arrs W : sProp 𝕄)
      = iprop((v0Loc d ↦{fullShare} W (dv main_v0)) ∗ Pipeline.unscopedRest spec0 d (fun b => W (dv b))) := by
  rw [unscopedRest0_eq]
  exact bigSep_eq_bigSepL_of_eq [dv main_v0, dv main_v1, dv main_v2, dv main_v3, dv main_cst, dv main_v4, dv main_v5, dv main_cst_0, dv main_v6, dv main_cst_1,
    dv main_v7, dv main_v8, dv main_cst_2, dv main_v9, dv main_v10, dv main_v11, dv main_cst_3, dv main_v12] (by decide) (by decide) _

/-- One array out of the lot, and back at any contents. -/
theorem held_take (d : Dev nD) (b : Ref sig .tc) (hb : dv b ∈ arrs) (W : Valuation τ sig (Elt F)) :
    (StableHlo.held (SparseCore.T d) arrs W : sProp 𝕄)
      = iprop(((SparseCore.T d).loc b ↦{fullShare} W (dv b)) ∗ StableHlo.held (SparseCore.T d) (arrs.erase (dv b)) W) := by
  unfold StableHlo.held
  exact SparseCore.bigSep_erase' hb

theorem held_put (d : Dev nD) (b : Ref sig .tc) (hb : dv b ∈ arrs) (W : Valuation τ sig (Elt F)) (f : Buf (Elt F) ((SparseCore.T d).loc b)) :
    iprop(((SparseCore.T d).loc b ↦{fullShare} f) ∗ StableHlo.held (SparseCore.T d) (arrs.erase (dv b)) W)
      = (StableHlo.held (SparseCore.T d) arrs (Function.update W (dv b) f) : sProp 𝕄) := by
  rw [held_take d b hb, Function.update_self]
  congr 1
  exact StableHlo.held_congr _ fun c hc => (Function.update_of_ne (Finset.ne_of_mem_erase hc) _ _).symm

/-- The arrays at the launch, with the first call's sum in its place. -/
def Vcall (d : Dev nD) : Valuation τ sig (Elt F) := Function.update (fun b => m (d, b)) (dv main_v0) (cell (accAt m d 8))
/-- The arrays after the second call. -/
def Vboth (d : Dev nD) : Valuation τ sig (Elt F) := Function.update ((opReshape (F := F)).result (Vcall m d)) (dv main_v2) (scRes m d)

theorem held_Vcall (d : Dev nD) : (StableHlo.held (SparseCore.T d) arrs (Vcall m d) : sProp 𝕄)
    = iprop((v0Loc d ↦{fullShare} cell (accAt m d 8)) ∗ Pipeline.unscopedRest spec0 d (fun b => m ((SparseCore.T d).loc b))) := by
  rw [held_arrs, show Vcall m d (dv main_v0) = cell (accAt m d 8) from Function.update_self _ _ _]
  congr 1

theorem reshape_v2 (d : Dev nD) : (opReshape (F := F)).result (Vcall m d) (dv main_v2) = m (oLoc d) := by
  unfold opReshape Vcall
  rw [StableHlo.reshape_result_ne (h := by decide), Function.update_of_ne (by decide)]

theorem reshape_within : (opReshape (F := F)).bufs ⊆ arrs := by
  unfold opReshape; rw [StableHlo.reshape_bufs]; decide

theorem tail_within : ∀ op ∈ opsTail (F := F), op.bufs ⊆ arrs := by
  unfold opsTail
  simp only [List.mem_cons, List.not_mem_nil, or_false, forall_eq_or_imp, forall_eq, StableHlo.unary_bufs, StableHlo.nullary_bufs, StableHlo.binary_bufs]
  decide

theorem tail_fresh : ∀ op ∈ opsTail (F := F), op.fresh = ∅ := by
  unfold opsTail
  simp only [List.mem_cons, List.not_mem_nil, or_false, forall_eq_or_imp, forall_eq]
  exact ⟨rfl, rfl, rfl, rfl, rfl, rfl, rfl, rfl, rfl, rfl, rfl, rfl, rfl, rfl, rfl⟩

theorem tail_value (d : Dev nD) : StableHlo.after (opsTail (F := F)) (Vboth m d) (dv main_v12) = result (F := F) (m (pLoc d)) (m (tLoc d)) := by
  have h2 : Vboth m d (dv main_v2) = scRes m d := Function.update_self _ _ _
  have h1 : Vboth m d (dv main_v1) = shapeCast S_ (cell (accAt m d 8)) shapeCasts_S1_S_ := by
    unfold Vboth
    rw [Function.update_of_ne (by decide)]
    unfold opReshape
    rw [StableHlo.reshape_result]
    unfold Vcall
    rw [Function.update_self]
    rfl
  unfold opsTail
  after_results
  rw [h1, h2]
  rfl

set_option maxHeartbeats 4000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd SparseCore.Cfg.tcSt
  rw [main_steps, wp_bind]
  iintro ⟨#Hctx, ⟨HO, Hst⟩, ⟨Hb, Hub, Hts, Hpr⟩, ⟨Hg, Ht⟩⟩
  iapply ((K (F := F)).wp_liftProg (D := D (F := F)) (𝒱 := 𝒱) (SparseCore.T d) Set.univ none (Prog.lift (.customCall (Pipeline.entry 0) ())) _)
  iapply ((region m).wp (pcfgs (F := F)) adm (dats m) none cellOf_inj EP defs₀ 𝒱₀ (K (F := F)).L (K (F := F)).lev d none (by simp) _ _) $$ [Hst HO Hb Hub Hts Hpr Hg Ht]
  isplitl [Hst Hts]
  · iintro ⟨Hb, Hpost⟩
    dsimp only [region]
    icases Hpost with ⟨Hp, Ht, Hv, Hr, HO, -⟩
    rw [wp_ret]
    imodintro
    rw [wp_bind]
    ihave Hh := (Entails.of_eq (held_Vcall m d).symm) $$ [Hv Hr]
    · isplitl [Hv]; · iexact Hv
      iexact Hr
    iapply (StableHlo.wp_hlo_within 𝒱 (SparseCore.T d) none Set.univ (op := opReshape) (S := arrs) reshape_within (V := Vcall m d)) $$ [Hb Hh]
    · isplitl [Hb]; · iexact Hb
      iexact Hh
    iintro ⟨Hb, Hh⟩
    rw [wp_ret]
    imodintro
    rw [wp_bind]
    ihave Hh2 := (Entails.of_eq (held_take d main_v2 (by decide) ((opReshape (F := F)).result (Vcall m d)))) $$ Hh
    icases Hh2 with ⟨Ho, Hh⟩
    ihave Ho' := (Entails.of_eq (congrArg (fun f => (oLoc d ↦{fullShare} f : sProp 𝕄)) (reshape_v2 m d))) $$ Ho
    iapply ((K (F := F)).wp_run (D (F := F)) 𝒱 (EH := EH) (P := P m) κ d 0) $$ [HO Hst Hp Ht Ho' Hb Hh Hts]
    isplitr; · iexact Hctx
    isplitl [HO Hst]
    · unfold SparseCore.Cfg.tcSt
      isplitl [HO]; · iexact HO
      iexact Hst
    isplitl [Hp Ht Ho']
    · iapply (Entails.of_eq (parts_eq m d (m (oLoc d))).symm)
      isplitl [Hp]; · iexact Hp
      isplitl [Ht]; · iexact Ht
      iexact Ho'
    iintro ⟨Hst, Hdn⟩
    ihave Hdn' := (Entails.of_eq (done_eq m d)) $$ Hdn
    icases Hdn' with ⟨Hp, Ht, Ho⟩
    ihave Hh := (Entails.of_eq (held_put d main_v2 (by decide) ((opReshape (F := F)).result (Vcall m d)) (scRes m d))) $$ [Ho Hh]
    · isplitl [Ho]; · iexact Ho
      iexact Hh
    iapply (StableHlo.wp_seq 𝒱 none Set.univ d arrs (fun _ => pure ⟨⟩) opsTail tail_within tail_fresh (Vboth m d)) $$ [Hb Hh]
    · isplitl [Hb]; · iexact Hb
      iexact Hh
    iintro ⟨Hb, Hh⟩
    rw [wp_pure]
    imodintro
    ihave Hh2 := (Entails.of_eq (held_take d main_v12 (by decide) (StableHlo.after (opsTail (F := F)) (Vboth m d)))) $$ Hh
    icases Hh2 with ⟨Hres, -⟩
    ihave Hres' := (Entails.of_eq (congrArg (fun f => (rLoc d ↦{fullShare} f : sProp 𝕄)) (tail_value m d))) $$ Hres
    isplitl [Hst]; · unfold SparseCore.Cfg.tcSt; iexact Hst
    isplitr [Hb Hts]
    · isplitl [Hp]; · iexact Hp
      isplitl [Ht]; · iexact Ht
      iexact Hres'
    isplitl [Hb] <;> iassumption
  isplitl [Hb]; · iexact Hb
  isplitl [Hub HO Hpr]
  · dsimp only [region]
    isplitl [Hub]; · iexact Hub
    isplitl [HO]; · iexact HO
    iexists _; iexact Hpr
  isplitr; · iapply ((K (F := F)).ctx_levAts κ); iexact Hctx
  isplitl [Hg]; · iexact Hg
  iexact Ht

/-! ## The program's run -/

def fq (d : Dev nD) (s' : Phys nD τ sig (Elt F)) : Prop :=
  s'.mem.mem (pLoc d) = m (pLoc d) ∧ s'.mem.mem (tLoc d) = m (tLoc d) ∧ s'.mem.mem (rLoc d) = result (F := F) (m (pLoc d)) (m (tLoc d))

theorem hfin (d : Dev nD) (s' : Phys nD τ sig (Elt F)) : iprop(FIN m d ∗ SI s') ⊢ (⌜fq m d s'⌝ : sProp 𝕄) := by
  iintro ⟨⟨Hp, Ht, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := result (F := F) (m (pLoc d)) (m (tLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What every execution ends in: the arguments as they were, the result at `result`, every counter at zero. -/
def Ends : PUnit × MemSt nD τ sig (Elt F) → Prop := fun r =>
  (∀ d : Dev nD, r.2.mem (pLoc d) = m (pLoc d) ∧ r.2.mem (tLoc d) = m (tLoc d) ∧ r.2.mem (rLoc d) = result (F := F) (m (pLoc d)) (m (tLoc d)))
    ∧ r.2.sem = fun _ => 0

theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (Ends m) (fun _ h hz => ⟨h, hz⟩)

end Cert.Proof.Bce
-- ==== Proof.Frames.lean ====
/- The claims that carry no value: both printings of the kernel run and end quiet, the reference does too,
   and the named constants are sanctioned. -/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import Idealize.ShloMosaic.Lib.Claim

@[expose] public section

noncomputable section

namespace Cert.Proof.Bce

open Idealize.ShloMosaic Idealize.SL.Sem Idealize.ShloMosaic.TcCoe

/-- The facts the precondition's printed function states. -/
instance preFacts : Cert.Pre_probabilities_and_labels.Facts where
  bcast_S_S4096x2048 := by decide
  reducesTo_S4096x2048_S_d0_1 := by decide
  h_S_ := by decide

/-- A named constant on the machine's words: the word the printed program carries beside the name. -/
@[reducible] def wordNamed : Named Bits := ⟨fun _ _ _ b => FloatOps.ofBits _ b⟩

theorem frame_kernel_ideal : Cert.quiescent_KernelIdeal := fun m g _ =>
  θ_run_mono (run_main (F := Ideal) m g) fun _ h => ⟨fun c => ⟨(h.1 c).1, (h.1 c).2.1⟩, h.2⟩

theorem frame_kernel_ideal_pre : Cert.quiescent_KernelIdeal_pre_probabilities_and_labels := fun m g _ =>
  frame_kernel_ideal m g trivial

theorem frame_reference : Cert.quiescent_ReferenceIdeal := by
  intro m g _
  exact θ_run_mono (Cert.ReferenceIdeal.Value.run (F := Ideal) m g)
    fun r h => ⟨fun c => (h c).2, sem_eq_zero_of_no_sems (by decide) r.2⟩

theorem frame_reference_pre : Cert.quiescent_ReferenceIdeal_pre_probabilities_and_labels := fun m g _ =>
  frame_reference m g trivial

/-! ## The kernel as compiled

The two printings of the kernel differ in their named constants only. Read on words, with each name standing for the
word beside it, they are one program, so the run above is the compiled kernel's run too. -/

section Words

attribute [local instance] wordNamed

set_option maxHeartbeats 4000000

theorem bodies_same : Cert.Kernel.defs₀ (F := Bits) = Cert.KernelIdeal.defs₀ (F := Bits) := by
  funext p ℓ a
  match p, ℓ, a with
  | .tc, 0, (_, _) => rfl
  | .tc, 1, _ => rfl
  | .scScalar _, _, _ => rfl
  | .scVector _ _, 0, _ => rfl
  | .scVector _ _, 1, _ => rfl

theorem defs_same : Cert.Kernel.defs (F := Bits) = Cert.KernelIdeal.defs (F := Bits) :=
  congrArg (fun d => Cert.KernelIdeal.sc.defs (Pipeline.defs Cert.KernelIdeal.pcfgs d)) bodies_same

theorem main_same : Cert.Kernel.main (F := Bits) = Cert.KernelIdeal.main (F := Bits) := rfl

theorem threads_same : Cert.Kernel.threads (F := Bits) = Cert.KernelIdeal.threads (F := Bits) :=
  congrArg (fun f => Cert.KernelIdeal.sc.threads f) main_same

/-- What a claim of quiescence reads off the run's end. -/
def Quiet (m : (ℓ : Loc Cert.KernelIdeal.nD Cert.KernelIdeal.τ Cert.KernelIdeal.sig) → Buf (Elt Bits) ℓ) :
    PUnit × MemSt Cert.KernelIdeal.nD Cert.KernelIdeal.τ Cert.KernelIdeal.sig (Elt Bits) → Prop := fun r =>
  (∀ c, r.2.mem (pLoc c) = m (pLoc c) ∧ r.2.mem (tLoc c) = m (tLoc c)) ∧ r.2.sem = fun _ => 0

theorem frame_kernel : Cert.quiescent_Kernel := fun m g _ => by
  have h : θ_run (Cert.KernelIdeal.defs (F := Bits)) Cert.KernelIdeal.threads ⟨m, fun _ => 0, g⟩ (Quiet m) :=
    θ_run_mono (run_main (F := Bits) m g) fun _ h => ⟨fun c => ⟨(h.1 c).1, (h.1 c).2.1⟩, h.2⟩
  rw [← defs_same, ← threads_same] at h
  exact h

end Words

theorem preserves : Cert.preserves_Kernel_KernelIdeal :=
  ⟨IdealRules.named_const.statement Cert.KernelIdeal.κ "w_ln2" .f32 0x415CC06D#32 _ rfl,
    IdealRules.named_const.statement Cert.KernelIdeal.κ "inv_ln2" .f32 0x3FB8AA3B#32 _ rfl⟩

end Cert.Proof.Bce
-- ==== Proof.Words.lean ====
/- The extended reals that the programs' constants are. -/
module

public import proofs.«01_k».proof.Proof.Gen.KernelIdeal
public import Idealize.ShloMosaic.PureOps.Ideal
public import Idealize.ShloMosaic.PureOps.Ideal.Laws
public import Idealize.ShloMosaic.Lib.IdealHost

@[expose] public section

noncomputable section

namespace Cert.Proof.Bce

open Idealize.ShloMosaic

/-- The f32 nearest to ln 2. -/
def ln2 : ℝ := 1453635 / 2097152
/-- The weight of a positive label. -/
def wPos : ℝ := 10435865 / 524288
/-- The threshold from which a label counts as positive. -/
def thr : ℝ := 8387769 / 8388608

theorem word_ln2 : Ideal.ofBits .f32 0x3F317218#32 = (ln2 : EReal) := by
  simp [Ideal.ofBits, Ideal.ieee, ln2, -EReal.coe_mul]; norm_num
theorem word_wPos : Ideal.ofBits .f32 0x419F3D19#32 = (wPos : EReal) := by
  simp [Ideal.ofBits, Ideal.ieee, wPos, -EReal.coe_mul]; norm_num
theorem word_wPos_sub_one : Ideal.ofBits .f32 0x41973D19#32 = ((wPos - 1 : ℝ) : EReal) := by
  simp [Ideal.ofBits, Ideal.ieee, wPos, -EReal.coe_mul, -EReal.coe_sub]; norm_num
theorem word_thr : Ideal.ofBits .f32 0x3F7FF972#32 = (thr : EReal) := by
  simp [Ideal.ofBits, Ideal.ieee, thr, -EReal.coe_mul]; norm_num
theorem word_clamp : Ideal.ofBits .f32 0xC2C80000#32 = ((-100 : ℝ) : EReal) := by
  simp [Ideal.ofBits, Ideal.ieee, -EReal.coe_mul, -EReal.coe_neg]; norm_num
theorem word_count : Ideal.ofBits .f32 0x4B000000#32 = ((8388608 : ℝ) : EReal) := by
  simp [Ideal.ofBits, Ideal.ieee, -EReal.coe_mul]
theorem word_least : Ideal.ofBits .f32 0x00800000#32 = ((1 / 2 ^ 126 : ℝ) : EReal) := by
  simp [Ideal.ofBits, Ideal.ieee, -EReal.coe_mul, -EReal.coe_pow]
  norm_num [zpow_neg]
theorem word_greatest : Ideal.ofBits .f32 0x3F7FFFFF#32 = ((1 - 1 / 2 ^ 24 : ℝ) : EReal) := by
  simp [Ideal.ofBits, Ideal.ieee, -EReal.coe_mul, -EReal.coe_pow, -EReal.coe_sub]; norm_num

theorem named_inv_ln2 : Named.named (F := Ideal) Cert.KernelIdeal.κ "inv_ln2" (φ := .f32) 0x3FB8AA3B#32 = ((1 / ln2 : ℝ) : EReal) :=
  (IdealRules.named_const.ideal_named_scalar _ _ _ _ rfl).trans
    (congrArg Real.toEReal (show (2097152 / 1453635 : ℝ) = 1 / ln2 by norm_num [ln2]))
theorem named_w_ln2 : Named.named (F := Ideal) Cert.KernelIdeal.κ "w_ln2" (φ := .f32) 0x415CC06D#32 = ((wPos * ln2 : ℝ) : EReal) :=
  (IdealRules.named_const.ideal_named_scalar _ _ _ _ rfl).trans
    (congrArg Real.toEReal (show (15169938619275 / 1099511627776 : ℝ) = wPos * ln2 by norm_num [ln2, wPos]))

theorem ln2_ne_zero : ln2 ≠ 0 := by norm_num [ln2]

end Cert.Proof.Bce
-- ==== Proof.Element.lean ====
/- One prediction and its label: what each of the programs adds for it, as extended reals, and what that is when the
   prediction lies inside (0, 1) and the label is 0 or 1. -/
module

public import proofs.«01_k».proof.Proof.Words
public import Mathlib.Analysis.SpecialFunctions.Log.Basic

@[expose] public section

noncomputable section

namespace Cert.Proof.Bce

open Idealize.ShloMosaic
open Cert.KernelIdeal (κ)

/-- The TensorCore's term: the weight with ln 2 folded in, times a binary logarithm. -/
def tcE (a y : EReal) : EReal :=
  (if Ideal.ofBits .f32 0x3F7FF972#32 ≤ y then Named.named (F := Ideal) κ "w_ln2" (φ := .f32) 0x415CC06D#32 else Ideal.ofBits .f32 0x3F317218#32)
    * (Ideal.log (if Ideal.ofBits .f32 0x3F7FF972#32 ≤ y then a else 1 - a) * Named.named (F := Ideal) κ "inv_ln2" (φ := .f32) 0x3FB8AA3B#32)

/-- The SparseCore's term: the binary logarithm of one minus the distance from the label. -/
def scE (a y : EReal) : EReal :=
  Ideal.log (1 - max (a - y) (-(a - y))) * Named.named (F := Ideal) κ "inv_ln2" (φ := .f32) 0x3FB8AA3B#32

/-- The cross entropy of one element, each logarithm kept at or above -100. -/
def nllE (a y : EReal) : EReal :=
  -(y * max (Ideal.ofBits .f32 0xC2C80000#32) (Ideal.log a) + (1 - y) * max (Ideal.ofBits .f32 0xC2C80000#32) (Ideal.log1p (-a)))

/-- The reference's term: the cross entropy, weighted where the label is positive. -/
def refE (a y : EReal) : EReal :=
  if Ideal.ofBits .f32 0x3F7FF972#32 ≤ y then Ideal.ofBits .f32 0x419F3D19#32 * nllE a y else nllE a y

/-- The log likelihood of label `y` under the prediction `a`. -/
def llh (a y : ℝ) : ℝ := y * Real.log a + (1 - y) * Real.log (1 - a)

/-- The weight of label `y`. -/
def wgt (y : ℝ) : ℝ := 1 + (wPos - 1) * y

theorem not_thr_le_zero : ¬ (thr : EReal) ≤ ((0 : ℝ) : EReal) := by
  rw [EReal.coe_le_coe_iff]; norm_num [thr]
theorem thr_le_one : (thr : EReal) ≤ ((1 : ℝ) : EReal) := by
  rw [EReal.coe_le_coe_iff]; norm_num [thr]

theorem log_real {r : ℝ} (h : 0 < r) : Ideal.log (r : EReal) = (Real.log r : EReal) := if_neg (not_le.2 h)

/-- A prediction that the precondition admits. -/
structure Inside (a : ℝ) : Prop where
  least : 1 / 2 ^ 126 ≤ a
  greatest : a ≤ 1 - 1 / 2 ^ 24

section
variable {a : ℝ} (h : Inside a)
include h

theorem Inside.pos : 0 < a := lt_of_lt_of_le (by norm_num) h.least
theorem Inside.pos' : 0 < 1 - a := by have := h.greatest; norm_num at this; linarith

omit h in
theorem log_ge_of_least {x : ℝ} (hx : 1 / 2 ^ 126 ≤ x) : -100 ≤ Real.log x := by
  have h1 : Real.log (1 / 2 ^ 126) ≤ Real.log x := Real.log_le_log (by norm_num) hx
  have h2 : Real.log (2 ^ 7) ≤ Real.log ((5 / 4) ^ 22) := Real.log_le_log (by norm_num) (by norm_num)
  have h3 : Real.log (5 / 4) ≤ 5 / 4 - 1 := Real.log_le_sub_one_of_pos (by norm_num)
  rw [Real.log_pow, Real.log_pow] at h2
  rw [one_div, Real.log_inv, Real.log_pow] at h1
  push_cast at h1 h2
  linarith

/-- Neither logarithm reaches the clamp. -/
theorem Inside.log_ge : -100 ≤ Real.log a := log_ge_of_least h.least
theorem Inside.log_ge' : -100 ≤ Real.log (1 - a) :=
  log_ge_of_least (le_trans (show (1 : ℝ) / 2 ^ 126 ≤ 1 / 2 ^ 24 by norm_num) (by have := h.greatest; linarith))

theorem tcE_real {y : ℝ} (hy : y = 0 ∨ y = 1) : tcE a y = ((wgt y * llh a y : ℝ) : EReal) := by
  have hs := ln2_ne_zero
  unfold tcE
  rw [word_thr, word_ln2, named_inv_ln2, named_w_ln2]
  rcases hy with rfl | rfl
  · rw [if_neg not_thr_le_zero, if_neg not_thr_le_zero, ← EReal.coe_one, ← EReal.coe_sub, log_real h.pos', ← EReal.coe_mul, ← EReal.coe_mul]
    congr 1; unfold wgt llh; field_simp; ring
  · rw [if_pos thr_le_one, if_pos thr_le_one, log_real h.pos, ← EReal.coe_mul, ← EReal.coe_mul]
    congr 1; unfold wgt llh; field_simp; ring

theorem scE_real {y : ℝ} (hy : y = 0 ∨ y = 1) : scE a y = ((llh a y / ln2 : ℝ) : EReal) := by
  have hs := ln2_ne_zero
  have h0 := h.pos
  have h1 := h.pos'
  unfold scE
  rw [named_inv_ln2, ← EReal.coe_sub, ← EReal.coe_neg, ← EReal.coe_strictMono.monotone.map_max, ← EReal.coe_one, ← EReal.coe_sub]
  rcases hy with rfl | rfl
  · rw [show 1 - max (a - 0) (-(a - 0)) = 1 - a by rw [max_eq_left (by linarith)]; ring, log_real h1, ← EReal.coe_mul]
    congr 1; unfold llh; field_simp; ring
  · rw [show 1 - max (a - 1) (-(a - 1)) = a by rw [max_eq_right (by linarith)]; ring, log_real h0, ← EReal.coe_mul]
    congr 1; unfold llh; field_simp; ring

theorem nllE_real (y : ℝ) : nllE a y = ((-llh a y : ℝ) : EReal) := by
  unfold nllE Ideal.log1p
  rw [word_clamp, log_real h.pos, ← EReal.coe_neg, ← EReal.coe_one, ← EReal.coe_add, ← sub_eq_add_neg, log_real h.pos',
    max_eq_right (EReal.coe_le_coe_iff.2 h.log_ge), max_eq_right (EReal.coe_le_coe_iff.2 h.log_ge'),
    ← EReal.coe_sub, ← EReal.coe_mul, ← EReal.coe_mul, ← EReal.coe_add, ← EReal.coe_neg]
  rfl

theorem refE_real {y : ℝ} (hy : y = 0 ∨ y = 1) : refE a y = ((-(wgt y * llh a y) : ℝ) : EReal) := by
  unfold refE
  rw [word_thr, word_wPos, nllE_real h, ← EReal.coe_mul]
  rcases hy with rfl | rfl
  · rw [if_neg not_thr_le_zero]; congr 1; unfold wgt; ring
  · rw [if_pos thr_le_one]; congr 1; unfold wgt; ring

end

/-- A finite sum of reals, taken as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Proof.Bce
-- ==== Proof.Reindex.lean ====
/- The rows of the arrays, split between the TensorCore's blocks and the SparseCore's slabs, and the order in which the
   tasks' lanes walk a slab. -/
module

public import Mathlib.Algebra.BigOperators.Fin
public import Mathlib.Logic.Equiv.Fin.Basic

@[expose] public section

namespace Cert.Proof.Bce

variable {M : Type} [AddCommMonoid M]

/-- A sum over `a · b` indices, by `a` groups of `b`. -/
theorem sum_groups (a b n : ℕ) (e : a * b = n) (f : Fin n → M) :
    ∑ i, f i = ∑ x : Fin a, ∑ y : Fin b, f ⟨b * x.val + y.val, by
      have := x.isLt; have := y.isLt
      calc b * x.val + y.val < b * x.val + b := by omega
        _ = b * (x.val + 1) := (Nat.mul_succ _ _).symm
        _ ≤ b * a := Nat.mul_le_mul_left _ (by omega)
        _ = n := by rw [Nat.mul_comm, e]⟩ := by
  subst e
  rw [← Equiv.sum_comp finProdFinEquiv, Fintype.sum_prod_type]
  refine Finset.sum_congr rfl fun x _ => Finset.sum_congr rfl fun y _ => congrArg f (Fin.ext ?_)
  show y.val + b * x.val = b * x.val + y.val
  omega

/-- The first 3968 rows by their blocks of 496, then the other 128. -/
theorem sum_rows (f : Fin 4096 → M) :
    ∑ r, f r = ∑ n : Fin 8, ∑ x : Fin 496, f ⟨496 * n.val + x.val, by have := n.isLt; have := x.isLt; omega⟩
      + ∑ q : Fin 128, f ⟨3968 + q.val, by have := q.isLt; omega⟩ := by
  rw [show ∑ r, f r = ∑ r : Fin (3968 + 128), f r from rfl, Fin.sum_univ_add, sum_groups 8 496 3968 rfl]
  rfl

/-- Task `w`, lane `l`, vector `r` of trip `k`: the row among the SparseCore's 128, and the column. -/
def spotRow (w : Fin 32) (k : Fin 128) (r : Fin 4) : Fin 128 :=
  ⟨8 * (w.val / 2) + (4 * k.val + r.val) / 64, by have := w.isLt; have := k.isLt; have := r.isLt; omega⟩
def spotCol (w : Fin 32) (l : Fin 16) (k : Fin 128) (r : Fin 4) : Fin 2048 :=
  ⟨1024 * (w.val % 2) + 16 * ((4 * k.val + r.val) % 64) + l.val, by have := l.isLt; omega⟩

/-- The tasks' lanes visit each place of the 128 rows once. -/
def spots : Fin 32 × Fin 16 × Fin 128 × Fin 4 ≃ Fin 128 × Fin 2048 where
  toFun s := (spotRow s.1 s.2.2.1 s.2.2.2, spotCol s.1 s.2.1 s.2.2.1 s.2.2.2)
  invFun x :=
    (⟨2 * (x.1.val / 8) + x.2.val / 1024, by have := x.1.isLt; have := x.2.isLt; omega⟩, ⟨x.2.val % 16, by omega⟩,
      ⟨(64 * (x.1.val % 8) + x.2.val % 1024 / 16) / 4, by omega⟩, ⟨(64 * (x.1.val % 8) + x.2.val % 1024 / 16) % 4, by omega⟩)
  left_inv s := by
    obtain ⟨⟨w, hw⟩, ⟨l, hl⟩, ⟨k, hk⟩, ⟨r, hr⟩⟩ := s
    simp only [spotRow, spotCol, Prod.mk.injEq, Fin.mk.injEq]
    refine ⟨by omega, by omega, by omega, by omega⟩
  right_inv x := by
    obtain ⟨⟨a, ha⟩, ⟨b, hb⟩⟩ := x
    simp only [spotRow, spotCol, Prod.mk.injEq, Fin.mk.injEq]
    refine ⟨by omega, by omega⟩

theorem sum_spots (f : Fin 128 → Fin 2048 → M) :
    ∑ w, ∑ l, ∑ k, ∑ r, f (spotRow w k r) (spotCol w l k r) = ∑ q, ∑ c, f q c := by
  have h := Equiv.sum_comp spots fun x => f x.1 x.2
  simp only [Fintype.sum_prod_type] at h
  exact h

end Cert.Proof.Bce
-- ==== Proof.Sums.lean ====
/- The kernel's three sums, written out over the elements they are sums of. -/
module

public import proofs.«01_k».proof.Proof.Main
public import proofs.«01_k».proof.Proof.Element
public import proofs.«01_k».proof.Proof.Reindex
public import Idealize.ShloMosaic.Lib.Pointwise

@[expose] public section

set_option maxRecDepth 16384

noncomputable section

namespace Cert.Proof.Bce

open Cert.KernelIdeal Cert.KernelIdeal.Gen
open Idealize.ShloMosaic

/-! ## The TensorCore's blocks -/

section
variable (p t : Vec Ideal S4096x2048 .f32)

/-- Row `x` of block `n`. -/
def blockRow (n : Fin 8) (x : Fin 496) : Fin 4096 := ⟨496 * n.val + x.val, by have := n.isLt; have := x.isLt; omega⟩

theorem rows_at {α : Type} (f : S4096x2048.Idx → α) (n : Fin 8) (x : Fin 496) (y : Fin 2048) :
    rows f n.val (ix2 x y) = f (ix2 (blockRow n x) y) := by
  refine congrArg f (funext fun a => Fin.ext ?_)
  rw [rowIdx_val n.val n.isLt]
  match a with
  | ⟨0, _⟩ => rfl
  | ⟨1, _⟩ => exact Nat.zero_add _

theorem block_sum (a b : Vec Ideal S496x2048 .f32) (c : Ideal .f32) :
    k0_pay1 a b c = c + ∑ x, ∑ y, tcE (a (ix2 x y)) (b (ix2 x y)) := by
  pointwise [k0_pay1]
  rfl

theorem tcAcc_sum (n : ℕ) (hn : n ≤ 8) :
    tcAcc p t n = ∑ i : Fin n, ∑ x : Fin 496, ∑ y : Fin 2048,
      tcE (p (ix2 (blockRow (i.castLE hn) x) y)) (t (ix2 (blockRow (i.castLE hn) x) y)) := by
  induction n with
  | zero => rw [Fin.sum_univ_zero]; exact Ideal.ofBits_zero .f32
  | succ n ih =>
    rw [Fin.sum_univ_castSucc, tcAcc, block_sum, ih (by omega)]
    congr 1
    refine Finset.sum_congr rfl fun x _ => Finset.sum_congr rfl fun y _ => ?_
    exact congrArg₂ tcE (rows_at p ((Fin.last n).castLE hn) x y) (rows_at t ((Fin.last n).castLE hn) x y)

end

/-! ## One task's loop -/

section
variable (p t : Vec Ideal S8x1024 .f32)

def accA (a : Acc Ideal) : Fin 4 → FVec Ideal S16 .f32
  | 0 => a.1 | 1 => a.2.1 | 2 => a.2.2.1 | 3 => a.2.2.2.1
def accB (a : Acc Ideal) : Fin 4 → FVec Ideal S16 .f32
  | 0 => a.2.2.2.2.1 | 1 => a.2.2.2.2.2.1 | 2 => a.2.2.2.2.2.2.1 | 3 => a.2.2.2.2.2.2.2

theorem tripA (k : Fin k1_t1_loop.trips) (a : Acc Ideal) (r : Fin 4) (l : Fin 16) :
    accA (tripAcc p t k a) r (ix1 l) = accA a r (ix1 l) + scE (lane p k r (ix2 0 l)) (lane t k r (ix2 0 l)) := by
  match r with
  | 0 => pointwise [accA, tripAcc, k1_pay3, k1_pay2, k1_pay1]; rfl
  | 1 => pointwise [accA, tripAcc, k1_pay8, k1_pay6, k1_pay7, k1_pay5]; rfl
  | 2 => pointwise [accA, tripAcc, k1_pay12, k1_pay11, k1_pay10]; rfl
  | 3 => pointwise [accA, tripAcc, k1_pay18, k1_pay15, k1_pay17, k1_pay14]; rfl

theorem tripB (k : Fin k1_t1_loop.trips) (a : Acc Ideal) (r : Fin 4) (l : Fin 16) :
    accB (tripAcc p t k a) r (ix1 l)
      = accB a r (ix1 l) + lane t k r (ix2 0 l) * scE (lane p k r (ix2 0 l)) (lane t k r (ix2 0 l)) := by
  match r with
  | 0 => pointwise [accB, tripAcc, k1_pay4, k1_pay2, k1_pay1]; rfl
  | 1 => pointwise [accB, tripAcc, k1_pay9, k1_pay5, k1_pay6, k1_pay7]; rfl
  | 2 => pointwise [accB, tripAcc, k1_pay13, k1_pay11, k1_pay10]; rfl
  | 3 => pointwise [accB, tripAcc, k1_pay19, k1_pay14, k1_pay15, k1_pay17]; rfl

theorem accA_zero (r : Fin 4) (l : Fin 16) : accA zeroAcc r (ix1 l) = 0 := by
  match r with
  | 0 | 1 | 2 | 3 => pointwise [accA, zeroAcc, k1_pay16]
theorem accB_zero (r : Fin 4) (l : Fin 16) : accB zeroAcc r (ix1 l) = 0 := by
  match r with
  | 0 | 1 | 2 | 3 => pointwise [accB, zeroAcc, k1_pay16]

theorem foldA (n : ℕ) (hn : n ≤ k1_t1_loop.trips) (r : Fin 4) (l : Fin 16) :
    accA (foldAcc p t n) r (ix1 l)
      = ∑ k : Fin n, scE (lane p (k.castLE hn) r (ix2 0 l)) (lane t (k.castLE hn) r (ix2 0 l)) := by
  induction n with
  | zero => rw [Fin.sum_univ_zero]; exact accA_zero r l
  | succ n ih =>
    have e := foldAcc_succ p t ⟨n, hn⟩
    simp only at e
    rw [Fin.sum_univ_castSucc, e, tripA, ih (by omega)]
    rfl
theorem foldB (n : ℕ) (hn : n ≤ k1_t1_loop.trips) (r : Fin 4) (l : Fin 16) :
    accB (foldAcc p t n) r (ix1 l)
      = ∑ k : Fin n, lane t (k.castLE hn) r (ix2 0 l) * scE (lane p (k.castLE hn) r (ix2 0 l)) (lane t (k.castLE hn) r (ix2 0 l)) := by
  induction n with
  | zero => rw [Fin.sum_univ_zero]; exact accB_zero r l
  | succ n ih =>
    have e := foldAcc_succ p t ⟨n, hn⟩
    simp only at e
    rw [Fin.sum_univ_castSucc, e, tripB, ih (by omega)]
    rfl

theorem sumA_sum (l : Fin 16) :
    sumA p t (ix1 l) = ∑ k : Fin k1_t1_loop.trips, ∑ r : Fin 4, scE (lane p k r (ix2 0 l)) (lane t k r (ix2 0 l)) := by
  have h : sumA p t (ix1 l) = ∑ r : Fin 4, accA (foldAcc p t k1_t1_loop.trips) r (ix1 l) := by
    rw [Fin.sum_univ_four]
    pointwise [sumA, k1_pay20]
    rfl
  rw [h, Finset.sum_comm]
  exact Finset.sum_congr rfl fun r _ => foldA p t _ le_rfl r l
theorem sumB_sum (l : Fin 16) :
    sumB p t (ix1 l) = ∑ k : Fin k1_t1_loop.trips, ∑ r : Fin 4,
      lane t k r (ix2 0 l) * scE (lane p k r (ix2 0 l)) (lane t k r (ix2 0 l)) := by
  have h : sumB p t (ix1 l) = ∑ r : Fin 4, accB (foldAcc p t k1_t1_loop.trips) r (ix1 l) := by
    rw [Fin.sum_univ_four]
    pointwise [sumB, k1_pay21]
    rfl
  rw [h, Finset.sum_comm]
  exact Finset.sum_congr rfl fun r _ => foldB p t _ le_rfl r l

end

/-! ## The tasks together -/

section
variable (p t : Vec Ideal S4096x2048 .f32)

/-- Row `q` of the SparseCore's 128. -/
def tailRow (q : Fin 128) : Fin 4096 := ⟨3968 + q.val, by have := q.isLt; omega⟩

theorem off2_val : ∀ (k : Fin k1_t1_loop.trips) (r : Fin 4),
    k1_off2 k (BitVec.ofNat 32 r.val) = ![(4 * k.val + r.val) / 64, 16 * ((4 * k.val + r.val) % 64)] := by decide +kernel

theorem off1_val (w : Fin 32) : k1_off1 (taskOf w) = ![8 * (w.val / 2) + 3968, 1024 * (w.val % 2)] := by
  have e : 2 * ((taskOf w) 1).val + ((taskOf w) 0).val = w.val := by
    show 2 * (w.val / 2) + w.val % 2 = w.val
    omega
  rw [k1_off1_eq, e]

theorem lane_at (x : Vec Ideal S4096x2048 .f32) (w : Fin 32) (k : Fin k1_t1_loop.trips) (r : Fin 4) (l : Fin 16) :
    lane (slab x (taskOf w)) k r (ix2 0 l) = x (ix2 (tailRow (spotRow w k r)) (spotCol w l k r)) := by
  refine congrArg x (funext fun a => Fin.ext ?_)
  have h1 := unit_val (s := S4096x2048) (k1_off1 (taskOf w)) S8x1024.size (k1_off1_inb (taskOf w))
    ((Rect.unit (s := S8x1024) (k1_off2 k (BitVec.ofNat 32 r.val)) S1x16.size (k1_off2_inb k r)).emb (ix2 0 l)) a
  have h2 := unit_val (s := S8x1024) (k1_off2 k (BitVec.ofNat 32 r.val)) S1x16.size (k1_off2_inb k r) (ix2 0 l) a
  refine (h1.trans (congrArg₂ (· + ·) (congrFun (off1_val w) a) (h2.trans (congrArg (· + _) (congrFun (off2_val k r) a))))).trans ?_
  match a with
  | ⟨0, _⟩ =>
    show 8 * (w.val / 2) + 3968 + ((4 * k.val + r.val) / 64 + 0) = 3968 + (8 * (w.val / 2) + (4 * k.val + r.val) / 64)
    omega
  | ⟨1, _⟩ =>
    show 1024 * (w.val % 2) + (16 * ((4 * k.val + r.val) % 64) + l.val) = 1024 * (w.val % 2) + 16 * ((4 * k.val + r.val) % 64) + l.val
    omega

theorem scLow_sum : (∑ x : Fin 512, scOut p t (ix1 ⟨x.val, by have := x.isLt; omega⟩))
    = ∑ q, ∑ c, scE (p (ix2 (tailRow q) c)) (t (ix2 (tailRow q) c)) := by
  rw [← sum_spots fun q c => scE (p (ix2 (tailRow q) c)) (t (ix2 (tailRow q) c)), sum_groups 32 16 512 rfl]
  refine Finset.sum_congr rfl fun w _ => Finset.sum_congr rfl fun l _ => ?_
  rw [scOut_low p t _ (taskOf w) (ix1 l) (by rw [wid_taskOf]; show 16 * w.val + l.val = w.val * 16 + l.val; omega), sumA_sum]
  exact Finset.sum_congr rfl fun k _ => Finset.sum_congr rfl fun r _ => by rw [lane_at, lane_at]

theorem scHigh_sum : (∑ x : Fin 512, scOut p t (ix1 ⟨512 + x.val, by have := x.isLt; omega⟩))
    = ∑ q, ∑ c, t (ix2 (tailRow q) c) * scE (p (ix2 (tailRow q) c)) (t (ix2 (tailRow q) c)) := by
  rw [← sum_spots fun q c => t (ix2 (tailRow q) c) * scE (p (ix2 (tailRow q) c)) (t (ix2 (tailRow q) c)), sum_groups 32 16 512 rfl]
  refine Finset.sum_congr rfl fun w _ => Finset.sum_congr rfl fun l _ => ?_
  rw [scOut_high p t _ (taskOf w) (ix1 l) (by rw [wid_taskOf]; show 512 + (16 * w.val + l.val) = 512 + w.val * 16 + l.val; omega), sumB_sum]
  exact Finset.sum_congr rfl fun k _ => Finset.sum_congr rfl fun r _ => by rw [lane_at, lane_at]

/-- The kernel's result as sums over the elements. -/
theorem result_sum (i : S_.Idx) :
    result (F := Ideal) p t i = Ideal.div (-((∑ n : Fin 8, ∑ x : Fin 496, ∑ c : Fin 2048, tcE (p (ix2 (blockRow n x) c)) (t (ix2 (blockRow n x) c)))
      + Ideal.ofBits .f32 0x3F317218#32 * ((∑ q, ∑ c, scE (p (ix2 (tailRow q) c)) (t (ix2 (tailRow q) c)))
        + Ideal.ofBits .f32 0x41973D19#32 * ∑ q, ∑ c, t (ix2 (tailRow q) c) * scE (p (ix2 (tailRow q) c)) (t (ix2 (tailRow q) c)))))
      (Ideal.ofBits .f32 0x4B000000#32) := by
  rw [← scLow_sum, ← scHigh_sum]
  have h := tcAcc_sum p t 8 le_rfl
  pointwise [result, cell]
  rw [h]
  rfl

end

end Cert.Proof.Bce
-- ==== Proof.Value.lean ====
/- The value claim: under the precondition the kernel's result is the reference's. -/
module

public import proofs.«01_k».proof.Proof.Sums
public import proofs.«01_k».proof.Proof.Frames
public import Idealize.ShloMosaic.Lib.ReduceAll

@[expose] public section

set_option maxRecDepth 16384

noncomputable section

namespace Cert.Proof.Bce

open Idealize.ShloMosaic Idealize.SL.Sem Idealize.ShloMosaic.TcCoe

/-! ## The precondition, read back -/

theorem bits_all : ∀ a b c d : Bool,
    IntOp.andi (IntOp.andi (BitVec.ofBool a) (BitVec.ofBool b)) (IntOp.ori (BitVec.ofBool c) (BitVec.ofBool d)) = 1#1
      → a = true ∧ b = true ∧ (c = true ∨ d = true) := by decide

/-- An extended real between the two bounds is a real that is inside. -/
theorem inside_of_le {x : EReal} (h1 : ((1 / 2 ^ 126 : ℝ) : EReal) ≤ x) (h2 : x ≤ ((1 - 1 / 2 ^ 24 : ℝ) : EReal)) :
    ∃ a : ℝ, x = a ∧ Inside a := by
  induction x using EReal.rec with
  | bot => exact absurd h1 (not_le.2 (EReal.bot_lt_coe _))
  | top => exact absurd h2 (not_le.2 (EReal.coe_lt_top _))
  | coe a => exact ⟨a, rfl, EReal.coe_le_coe_iff.1 h1, EReal.coe_le_coe_iff.1 h2⟩

/-- Predictions and labels that satisfy the precondition, as reals. -/
structure Reads (p t : Fin 4096 → Fin 2048 → EReal) (P Y : Fin 4096 → Fin 2048 → ℝ) : Prop where
  pred : ∀ r c, p r c = P r c
  label : ∀ r c, t r c = Y r c
  inside : ∀ r c, Inside (P r c)
  binary : ∀ r c, Y r c = 0 ∨ Y r c = 1

theorem reads_of_pre (p t : Vec Ideal ⟨2, ![4096, 2048]⟩ .f32)
    (h : Cert.Pre_probabilities_and_labels.fn (F := Ideal) p t = fun _ => 1#1) :
    ∃ P Y, Reads (fun r c => p (ix2 r c)) (fun r c => t (ix2 r c)) P Y := by
  have each : ∀ r c, ∃ a y : ℝ, (p (ix2 r c) = a ∧ Inside a) ∧ t (ix2 r c) = y ∧ (y = 0 ∨ y = 1) := by
    intro r c
    have e0 := congrFun h ix0
    dsimp only [Cert.Pre_probabilities_and_labels.fn] at e0
    have e := Host.reduce_andi_all _ _ _ _ ix0 e0 (ix2 r c)
    have e1 : IntOp.andi (IntOp.andi (BitVec.ofBool (decide (Ideal.ofBits .f32 0x00800000#32 ≤ p (ix2 r c))))
          (BitVec.ofBool (decide (p (ix2 r c) ≤ Ideal.ofBits .f32 0x3F7FFFFF#32))))
        (IntOp.ori (BitVec.ofBool (decide (t (ix2 r c) = Ideal.ofBits .f32 0x00000000#32)))
          (BitVec.ofBool (decide (t (ix2 r c) = Ideal.ofBits .f32 0x3F800000#32)))) = 1#1 := e
    obtain ⟨h1, h2, h3⟩ := bits_all _ _ _ _ e1
    obtain ⟨a, ha⟩ := inside_of_le (word_least ▸ of_decide_eq_true h1) (word_greatest ▸ of_decide_eq_true h2)
    rcases h3 with h3 | h3
    · exact ⟨a, 0, ha, (of_decide_eq_true h3).trans (Ideal.ofBits_zero .f32), Or.inl rfl⟩
    · exact ⟨a, 1, ha, (of_decide_eq_true h3).trans (Ideal.ofBits_one_f32), Or.inr rfl⟩
  choose P Y h using each
  exact ⟨P, Y, fun r c => (h r c).1.1, fun r c => (h r c).2.1, fun r c => (h r c).1.2, fun r c => (h r c).2.2⟩

/-! ## The reference's result -/

section Reference
open Cert.ReferenceIdeal Cert.ReferenceIdeal.Gen

/-- The reference's cross entropies, as an array. -/
def nllV (p t : FVec Ideal S4096x2048 .f32) : FVec Ideal S4096x2048 .f32 :=
  Host.negf (addf (mulf t (maximumf (broadcastInDim S4096x2048 ![] bcast_S_S4096x2048 (id (constant S_ .f32 0xC2C80000#32))) (Host.log p)))
    (mulf (subf (broadcastInDim S4096x2048 ![] bcast_S_S4096x2048 (constant S_ .f32 0x3F800000#32)) t)
      (maximumf (broadcastInDim S4096x2048 ![] bcast_S_S4096x2048 (id (constant S_ .f32 0xC2C80000#32))) (Host.log1p (Host.negf p)))))

/-- The reference's result. -/
def refOut (p t : FVec Ideal S4096x2048 .f32) : FVec Ideal S_ .f32 :=
  Host.divf (Host.reduceAdd (select (cmpf .oge t (broadcastInDim S4096x2048 ![] bcast_S_S4096x2048 (constant S_ .f32 0x3F7FF972#32)))
      (mulf (broadcastInDim S4096x2048 ![] bcast_S_S4096x2048 (constant S_ .f32 0x419F3D19#32)) (nllV p t)) (nllV p t))
    (constant S_ .f32 0x00000000#32) reducesTo_S4096x2048_S_d0_1 h_S_) (constant S_ .f32 0x4B000000#32)

theorem refOut_sum (p t : FVec Ideal S4096x2048 .f32) (i : S_.Idx) :
    refOut p t i = Ideal.div (∑ r, ∑ c, refE (p (ix2 r c)) (t (ix2 r c))) (Ideal.ofBits .f32 0x4B000000#32) := by
  pointwise [refOut, nllV]
  rfl

end Reference

/-! ## The two results are equal -/

/-- The kernel's sums, weighted, are the whole sum of the weighted log likelihoods. -/
theorem real_sums (P Y : Fin 4096 → Fin 2048 → ℝ) :
    (∑ n : Fin 8, ∑ x : Fin 496, ∑ c, wgt (Y (blockRow n x) c) * llh (P (blockRow n x) c) (Y (blockRow n x) c))
      + ln2 * ((∑ q, ∑ c, llh (P (tailRow q) c) (Y (tailRow q) c) / ln2)
        + (wPos - 1) * ∑ q, ∑ c, Y (tailRow q) c * (llh (P (tailRow q) c) (Y (tailRow q) c) / ln2))
      = ∑ r, ∑ c, wgt (Y r c) * llh (P r c) (Y r c) := by
  have hs := ln2_ne_zero
  rw [sum_rows fun r => ∑ c, wgt (Y r c) * llh (P r c) (Y r c)]
  congr 1
  simp only [Finset.mul_sum, ← Finset.sum_add_distrib]
  refine Finset.sum_congr rfl fun q _ => Finset.sum_congr rfl fun c _ => ?_
  show ln2 * (_ + _) = wgt (Y (tailRow q) c) * llh (P (tailRow q) c) (Y (tailRow q) c)
  unfold wgt
  field_simp

theorem value_eq (p t : Vec Ideal ⟨2, ![4096, 2048]⟩ .f32)
    (h : Cert.Pre_probabilities_and_labels.fn (F := Ideal) p t = fun _ => 1#1) : result (F := Ideal) p t = refOut p t := by
  obtain ⟨P, Y, hr⟩ := reads_of_pre p t h
  have hp : ∀ r c, p (ix2 r c) = P r c := hr.pred
  have ht : ∀ r c, t (ix2 r c) = Y r c := hr.label
  have eT : ∀ r c, tcE (P r c) (Y r c) = _ := fun r c => tcE_real (hr.inside r c) (hr.binary r c)
  have eS : ∀ r c, scE (P r c) (Y r c) = _ := fun r c => scE_real (hr.inside r c) (hr.binary r c)
  have eR : ∀ r c, refE (P r c) (Y r c) = _ := fun r c => refE_real (hr.inside r c) (hr.binary r c)
  funext i
  rw [result_sum, refOut_sum, word_ln2, word_wPos_sub_one]
  simp only [hp, ht, eT, eS, eR, ← EReal.coe_mul, ← coe_sum, ← EReal.coe_add, ← EReal.coe_neg]
  rw [real_sums]
  simp only [Finset.sum_neg_distrib]

theorem algebraic : Cert.algebraic_KernelIdeal_ReferenceIdeal_pre_probabilities_and_labels := by
  intro m g m' g' hpre hagree
  refine ⟨fun c => result (F := Ideal) (m (pLoc c)) (m (tLoc c)),
    θ_run_mono (run_main (F := Ideal) m g) fun r h c => ⟨(h.1 c).2.2, (h.1 c).1, (h.1 c).2.1⟩,
    θ_run_mono (Cert.ReferenceIdeal.Value.run (F := Ideal) m' g') fun r h c => ⟨(h c).1.trans ?_, (h c).2⟩⟩
  rw [(hagree c).1, (hagree c).2]
  exact (value_eq _ _ (hpre c)).symm

end Cert.Proof.Bce
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Bce.preFacts,
    Bce.frame_kernel, Bce.frame_kernel_ideal, Bce.frame_kernel_ideal_pre, Bce.frame_reference, Bce.frame_reference_pre,
    Bce.preserves, Bce.algebraic⟩

end Cert.Proof

end
